-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x32 : Shape := ⟨2, ![512, 32]⟩
abbrev S2048x1 : Shape := ⟨2, ![2048, 1]⟩
abbrev S4x512x1024 : Shape := ⟨3, ![4, 512, 1024]⟩
abbrev S512x1024 : Shape := ⟨2, ![512, 1024]⟩
abbrev S256x1024 : Shape := ⟨2, ![256, 1024]⟩
abbrev S7x256x1024 : Shape := ⟨3, ![7, 256, 1024]⟩
abbrev S7 : Shape := ⟨1, ![7]⟩
abbrev S_ : Shape := ⟨0, ![]⟩
abbrev S2048x32 : Shape := ⟨2, ![2048, 32]⟩
abbrev S2048 : Shape := ⟨1, ![2048]⟩
abbrev S1x512x1024 : Shape := ⟨3, ![1, 512, 1024]⟩
abbrev S256x512 : Shape := ⟨2, ![256, 512]⟩
abbrev S256x1 : Shape := ⟨2, ![256, 1]⟩
abbrev S1x256x1024 : Shape := ⟨3, ![1, 256, 1024]⟩
abbrev S1 : Shape := ⟨1, ![1]⟩

abbrev nBuf : Space → Nat
  | .hbm => 6
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S4x512x1024, .bf16⟩
  | .hbm, ⟨4, _⟩ => ⟨S512x1024, .bf16⟩
  | .hbm, ⟨5, _⟩ => ⟨S256x1024, .f32⟩
  | .local _ .vmem, ⟨0, _⟩ => ⟨S2048x512, .bf16⟩
  | .local _ .vmem, ⟨1, _⟩ => ⟨S512x32, .bf16⟩
  | .local _ .vmem, ⟨2, _⟩ => ⟨S2048x1, .i32⟩
  | .local _ .vmem, ⟨3, _⟩ => ⟨S4x512x1024, .bf16⟩
  | .local _ .vmem, ⟨4, _⟩ => ⟨S512x1024, .bf16⟩
  | .local _ .vmem, ⟨5, _⟩ => ⟨S256x1024, .f32⟩
  | .local _ .vmem, ⟨6, _⟩ => ⟨S2048x1, .f32⟩
  | .local _ .vmem, ⟨7, _⟩ => ⟨S7x256x1024, .bf16⟩
  | .local _ .vmem, ⟨8, _⟩ => ⟨S7x256x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => true
  | ⟨1, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 2 20 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c0_i32_51 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_50 : BitVec 32 := 1#32
  let v67 : BitVec 32 := Scalar.addi v2 c1_i32_50
  let v68 : BitVec 32 := Scalar.addi v67 c0_i32_51
  let c8_i32_52 : BitVec 32 := 8#32
  let v69 : BitVec 32 := Scalar.remsi v68 c8_i32_52
  let c256_i32 : BitVec 32 := 256#32
  let v70 : BitVec 32 := Scalar.muli v69 c256_i32
  let v71 : Index := Scalar.indexCast v70
  let c0_53 : Index := 0#32
  ![v71.toNat, 0]
def k0_off2 (d0 : Dev nD) (c0_i32_51 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_50 : BitVec 32 := 1#32
  let v67 : BitVec 32 := Scalar.addi v2 c1_i32_50
  let v68 : BitVec 32 := Scalar.addi v67 c0_i32_51
  let c8_i32_52 : BitVec 32 := 8#32
  let v69 : BitVec 32 := Scalar.remsi v68 c8_i32_52
  let c256_i32 : BitVec 32 := 256#32
  let v70 : BitVec 32 := Scalar.muli v69 c256_i32
  let v74 : Index := Scalar.indexCast v70
  let c0_54 : Index := 0#32
  ![v74.toNat, 0]
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_50 : BitVec 32 := 1#32
  let v67 : BitVec 32 := Scalar.addi v2 c1_i32_50
  let c0_i32_51 : BitVec 32 := 0#32
  let v68 : BitVec 32 := Scalar.addi v67 c0_i32_51
  let c8_i32_52 : BitVec 32 := 8#32
  let v69 : BitVec 32 := Scalar.remsi v68 c8_i32_52
  let c1_i32_76 : BitVec 32 := 1#32
  let v128 : BitVec 32 := Scalar.muli v69 c1_i32_76
  let v129 : BitVec 32 := Scalar.addi c0_i32_77 v128
  v129.toNat
def k0_dev9 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_82 : BitVec 32 := 1#32
  let v138 : BitVec 32 := Scalar.addi v2 c1_i32_82
  let c1_i32_83 : BitVec 32 := 1#32
  let v139 : BitVec 32 := Scalar.addi v138 c1_i32_83
  let c8_i32_84 : BitVec 32 := 8#32
  let v140 : BitVec 32 := Scalar.remsi v139 c8_i32_84
  let c1_i32_109 : BitVec 32 := 1#32
  let v199 : BitVec 32 := Scalar.muli v140 c1_i32_109
  let v200 : BitVec 32 := Scalar.addi c0_i32_110 v199
  v200.toNat
def k0_dev10 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_115 : BitVec 32 := 1#32
  let v209 : BitVec 32 := Scalar.addi v2 c1_i32_115
  let c2_i32_116 : BitVec 32 := 2#32
  let v210 : BitVec 32 := Scalar.addi v209 c2_i32_116
  let c8_i32_117 : BitVec 32 := 8#32
  let v211 : BitVec 32 := Scalar.remsi v210 c8_i32_117
  let c1_i32_142 : BitVec 32 := 1#32
  let v270 : BitVec 32 := Scalar.muli v211 c1_i32_142
  let v271 : BitVec 32 := Scalar.addi c0_i32_143 v270
  v271.toNat
def k0_dev11 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_148 : BitVec 32 := 1#32
  let v280 : BitVec 32 := Scalar.addi v2 c1_i32_148
  let c3_i32_149 : BitVec 32 := 3#32
  let v281 : BitVec 32 := Scalar.addi v280 c3_i32_149
  let c8_i32_150 : BitVec 32 := 8#32
  let v282 : BitVec 32 := Scalar.remsi v281 c8_i32_150
  let c1_i32_175 : BitVec 32 := 1#32
  let v341 : BitVec 32 := Scalar.muli v282 c1_i32_175
  let v342 : BitVec 32 := Scalar.addi c0_i32_176 v341
  v342.toNat
def k0_dev12 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_181 : BitVec 32 := 1#32
  let v351 : BitVec 32 := Scalar.addi v2 c1_i32_181
  let c4_i32_182 : BitVec 32 := 4#32
  let v352 : BitVec 32 := Scalar.addi v351 c4_i32_182
  let c8_i32_183 : BitVec 32 := 8#32
  let v353 : BitVec 32 := Scalar.remsi v352 c8_i32_183
  let c1_i32_207 : BitVec 32 := 1#32
  let v412 : BitVec 32 := Scalar.muli v353 c1_i32_207
  let v413 : BitVec 32 := Scalar.addi c0_i32_208 v412
  v413.toNat
def k0_dev13 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_213 : BitVec 32 := 1#32
  let v422 : BitVec 32 := Scalar.addi v2 c1_i32_213
  let c5_i32_214 : BitVec 32 := 5#32
  let v423 : BitVec 32 := Scalar.addi v422 c5_i32_214
  let c8_i32_215 : BitVec 32 := 8#32
  let v424 : BitVec 32 := Scalar.remsi v423 c8_i32_215
  let c1_i32_239 : BitVec 32 := 1#32
  let v483 : BitVec 32 := Scalar.muli v424 c1_i32_239
  let v484 : BitVec 32 := Scalar.addi c0_i32_240 v483
  v484.toNat
def k0_dev14 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_245 : BitVec 32 := 1#32
  let v493 : BitVec 32 := Scalar.addi v2 c1_i32_245
  let c6_i32_246 : BitVec 32 := 6#32
  let v494 : BitVec 32 := Scalar.addi v493 c6_i32_246
  let c8_i32_247 : BitVec 32 := 8#32
  let v495 : BitVec 32 := Scalar.remsi v494 c8_i32_247
  let c1_i32_271 : BitVec 32 := 1#32
  let v554 : BitVec 32 := Scalar.muli v495 c1_i32_271
  let v555 : BitVec 32 := Scalar.addi c0_i32_272 v554
  v555.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_277 : BitVec 32 := 256#32
  let v564 : BitVec 32 := Scalar.muli v2 c256_i32_277
  let v565 : Index := Scalar.indexCast v564
  let c0_278 : Index := 0#32
  ![v565.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_277 : BitVec 32 := 256#32
  let v564 : BitVec 32 := Scalar.muli v2 c256_i32_277
  let v568 : Index := Scalar.indexCast v564
  let c0_279 : Index := 0#32
  ![v568.toNat, 0]
def k0_dev15 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_455 : BitVec 32 := 1#32
  let v753 : BitVec 32 := Scalar.addi v2 c1_i32_455
  let c8_i32_456 : BitVec 32 := 8#32
  let v754 : BitVec 32 := Scalar.remsi v753 c8_i32_456
  let c1_i32_458 : BitVec 32 := 1#32
  let v755 : BitVec 32 := Scalar.muli v754 c1_i32_458
  let v756 : BitVec 32 := Scalar.addi c0_i32_459 v755
  v756.toNat
def k0_dev16 (d0 : Dev nD) : Nat :=
  let c0_i32_464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_460 : BitVec 32 := 2#32
  let v757 : BitVec 32 := Scalar.addi v2 c2_i32_460
  let c8_i32_461 : BitVec 32 := 8#32
  let v758 : BitVec 32 := Scalar.remsi v757 c8_i32_461
  let c1_i32_463 : BitVec 32 := 1#32
  let v759 : BitVec 32 := Scalar.muli v758 c1_i32_463
  let v760 : BitVec 32 := Scalar.addi c0_i32_464 v759
  v760.toNat
def k0_dev17 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_465 : BitVec 32 := 3#32
  let v761 : BitVec 32 := Scalar.addi v2 c3_i32_465
  let c8_i32_466 : BitVec 32 := 8#32
  let v762 : BitVec 32 := Scalar.remsi v761 c8_i32_466
  let c1_i32_468 : BitVec 32 := 1#32
  let v763 : BitVec 32 := Scalar.muli v762 c1_i32_468
  let v764 : BitVec 32 := Scalar.addi c0_i32_469 v763
  v764.toNat
def k0_dev18 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_470 : BitVec 32 := 4#32
  let v765 : BitVec 32 := Scalar.addi v2 c4_i32_470
  let c8_i32_471 : BitVec 32 := 8#32
  let v766 : BitVec 32 := Scalar.remsi v765 c8_i32_471
  let c1_i32_473 : BitVec 32 := 1#32
  let v767 : BitVec 32 := Scalar.muli v766 c1_i32_473
  let v768 : BitVec 32 := Scalar.addi c0_i32_474 v767
  v768.toNat
def k0_dev19 (d0 : Dev nD) : Nat :=
  let c0_i32_479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_475 : BitVec 32 := 5#32
  let v769 : BitVec 32 := Scalar.addi v2 c5_i32_475
  let c8_i32_476 : BitVec 32 := 8#32
  let v770 : BitVec 32 := Scalar.remsi v769 c8_i32_476
  let c1_i32_478 : BitVec 32 := 1#32
  let v771 : BitVec 32 := Scalar.muli v770 c1_i32_478
  let v772 : BitVec 32 := Scalar.addi c0_i32_479 v771
  v772.toNat
def k0_dev20 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_480 : BitVec 32 := 6#32
  let v773 : BitVec 32 := Scalar.addi v2 c6_i32_480
  let c8_i32_481 : BitVec 32 := 8#32
  let v774 : BitVec 32 := Scalar.remsi v773 c8_i32_481
  let c1_i32_483 : BitVec 32 := 1#32
  let v775 : BitVec 32 := Scalar.muli v774 c1_i32_483
  let v776 : BitVec 32 := Scalar.addi c0_i32_484 v775
  v776.toNat
def k0_dev21 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_485 : BitVec 32 := 7#32
  let v777 : BitVec 32 := Scalar.addi v2 c7_i32_485
  let c8_i32_486 : BitVec 32 := 8#32
  let v778 : BitVec 32 := Scalar.remsi v777 c8_i32_486
  let c1_i32_488 : BitVec 32 := 1#32
  let v779 : BitVec 32 := Scalar.muli v778 c1_i32_488
  let v780 : BitVec 32 := Scalar.addi c0_i32_489 v779
  v780.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S512x1024 : Shape := ⟨2, ![512, 1024]⟩
abbrev S2048x32 : Shape := ⟨2, ![2048, 32]⟩
abbrev S_ : Shape := ⟨0, ![]⟩
abbrev S2048 : Shape := ⟨1, ![2048]⟩
abbrev S2048x1024 : Shape := ⟨2, ![2048, 1024]⟩
abbrev S1x32 : Shape := ⟨2, ![1, 32]⟩
abbrev S2048x32x1 : Shape := ⟨3, ![2048, 32, 1]⟩
abbrev S2048x1x512 : Shape := ⟨3, ![2048, 1, 512]⟩
abbrev S2048x32x512 : Shape := ⟨3, ![2048, 32, 512]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S32x512x1024, .bf16⟩
  | .hbm, ⟨4, _⟩ => ⟨S512x1024, .bf16⟩
  | .hbm, ⟨5, _⟩ => ⟨S2048x512, .f32⟩
  | .hbm, ⟨6, _⟩ => ⟨S512x32, .f32⟩
  | .hbm, ⟨7, _⟩ => ⟨S2048x32, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x32, .f32⟩
  | .hbm, ⟨12, _⟩ => ⟨S2048x32, .f32⟩
  | .hbm, ⟨13, _⟩ => ⟨S2048x32, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x32, .f32⟩
  | .hbm, ⟨18, _⟩ => ⟨S2048x32, .f32⟩
  | .hbm, ⟨19, _⟩ => ⟨S512x1024, .f32⟩
  | .hbm, ⟨20, _⟩ => ⟨S2048x1024, .f32⟩
  | .hbm, ⟨21, _⟩ => ⟨S2048, .i32⟩
  | .hbm, ⟨22, _⟩ => ⟨S2048x1, .i32⟩
  | .hbm, ⟨23, _⟩ => ⟨S1x32, .i32⟩
  | .hbm, ⟨24, _⟩ => ⟨S2048x32, .i32⟩
  | .hbm, ⟨25, _⟩ => ⟨S2048x32, .i32⟩
  | .hbm, ⟨26, _⟩ => ⟨S2048x32, .i1⟩
  | .hbm, ⟨27, _⟩ => ⟨S2048x32, .f32⟩
  | .hbm, ⟨28, _⟩ => ⟨S2048x32, .f32⟩
  | .hbm, ⟨29, _⟩ => ⟨S2048x32x1, .f32⟩
  | .hbm, ⟨30, _⟩ => ⟨S2048x1x512, .f32⟩
  | .hbm, ⟨31, _⟩ => ⟨S2048x32x512, .f32⟩
  | .hbm, ⟨32, _⟩ => ⟨S2048x32x512, .f32⟩
  | .hbm, ⟨33, _⟩ => ⟨S2048x32x512, .f32⟩
  | .hbm, ⟨34, _⟩ => ⟨S32x512x1024, .f32⟩
  | .hbm, ⟨35, _⟩ => ⟨S2048x1024, .f32⟩
  | .hbm, ⟨36, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Proof.Ring.lean ====
/-
The ring of eight devices of the mixture-of-experts kernel: who sends to whom, the seven slots of the
send and receive buffers, the sixteen semaphore cells of a device, and the contents every buffer takes.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The algebra of the exchange's rounds, its duties named by the seven offsets. -/
abbrev UX : Type := URounds (GSem nD τ sig) (Fin 7)
/-- The pipeline's algebra beside the exchange's. -/
abbrev UU : Type := UR sig nD τ × UX

/-- The resources of the run. -/
abbrev MM (F : FTy → Type) : Type := MT nD τ sig Unit (Elt F) ℕ UU ℕ

/-- The pipeline's copy, -/
abbrev EP : Emb (UR sig nD τ) (MM F) := embL
/-- and the exchange's. -/
abbrev EX : Emb UX (MM F) := embR

variable (m : (ℓ : Loc nD τ sig) → Buf (Elt F) ℓ) (ρ : Dev nD → PrngReg)

/-- The memory at launch: any contents, every semaphore at zero, any generator registers. -/
def mem₀ : MemSt nD τ sig (Elt F) := ⟨m, fun _ => 0, ρ⟩

/-! ## Who is `k + 1` places on -/

set_option backward.proofsInPublic true in
/-- The device `k + 1` places after `c` around the ring. -/
def peer (c : Dev nD) (k : Fin 7) : Dev nD := ⟨(c.val + k.val + 1) % 8, Nat.mod_lt _ (by decide)⟩

/-- Going `k + 1` places on and then `7 - k` places on comes back. -/
theorem peer_rev (c : Dev nD) (k : Fin 7) : peer (peer c k) k.rev = c := by revert c k; decide
/-- The same the other way round. -/
theorem peer_rev' (c : Dev nD) (k : Fin 7) : peer (peer c k.rev) k = c := by revert c k; decide

/-- `k + 1` places on, as a permutation of the devices. -/
def turn (k : Fin 7) : Dev nD ≃ Dev nD := ⟨fun c => peer c k, fun c => peer c k.rev, fun c => peer_rev c k, fun c => peer_rev' c k⟩

/-- No device is another's peer at two offsets. -/
theorem peer_inj {c : Dev nD} {k k' : Fin 7} (h : peer c k = peer c k') : k = k' := by revert c k k'; decide

/-! ## The buffers -/

/-- The staged inputs: tokens, router weights, route indices, the device's experts, the shared expert. -/
abbrev xM : Memref sig .tc .vmem S2048x512 .bf16 := Memref.whole cc0_stg0_0
abbrev wM : Memref sig .tc .vmem S512x32 .bf16 := Memref.whole cc0_stg1_0
abbrev rM : Memref sig .tc .vmem S2048x1 .i32 := Memref.whole cc0_stg2_0
abbrev eM : Memref sig .tc .vmem S4x512x1024 .bf16 := Memref.whole cc0_stg3_0
abbrev hM : Memref sig .tc .vmem S512x1024 .bf16 := Memref.whole cc0_stg4_0
/-- The staged output. -/
abbrev oM : Memref sig .tc .vmem S256x1024 .f32 := Memref.whole cc0_stg5_0
/-- The router's probabilities, the send buffer and the receive buffer. -/
abbrev pM : Memref sig .tc .vmem S2048x1 .f32 := Memref.whole cc0_scratch0
abbrev sM : Memref sig .tc .vmem S7x256x1024 .bf16 := Memref.whole cc0_scratch1
abbrev vM : Memref sig .tc .vmem S7x256x1024 .bf16 := Memref.whole cc0_scratch2

theorem slot_inb (j : Fin 7) (a : Fin 3) : (![j.val, 0, 0] : Fin 3 → ℕ) a + S1x256x1024.size a ≤ S7x256x1024.size a := by
  revert j a; decide

/-- Slot `j` of a send or receive buffer, -/
abbrev slotR (j : Fin 7) : Rect S7x256x1024 := Rect.unit (s := S7x256x1024) ![j.val, 0, 0] S1x256x1024.size (slot_inb j)

/-- as the two-axis buffer a copy moves. -/
abbrev sendM (j : Fin 7) : Memref sig .tc .vmem S256x1024 .bf16 :=
  (sM.slice (slotR j) (fun _ => rfl)).squeeze S256x1024 squeezes_S1x256x1024_S256x1024
abbrev recvM (j : Fin 7) : Memref sig .tc .vmem S256x1024 .bf16 :=
  (vM.slice (slotR j) (fun _ => rfl)).squeeze S256x1024 squeezes_S1x256x1024_S256x1024

/-! ## The semaphores and their cells -/

/-- The runtime's barrier semaphore, and the kernel's own that closes the exchange. -/
abbrev barS : Sem sig := (SemArray.scalar (sig.barrier 0 rfl) : Sems sig S_).sem
abbrev doneS : Sem sig := (cc0_scratch5 : Sems sig S_).sem
set_option backward.proofsInPublic true in
/-- Slot `j`'s send semaphore, and its receive semaphore. -/
def sendS (j : Fin 7) : DmaSem sig := ⟨6 + j.val, by have := j.isLt; show 6 + j.val < 20; omega⟩
set_option backward.proofsInPublic true in
def recvS (j : Fin 7) : DmaSem sig := ⟨13 + j.val, by have := j.isLt; show 13 + j.val < 20; omega⟩

abbrev barCell (c : Dev nD) : GSem nD τ sig := ((c : Thread nD τ), .reg barS)
abbrev doneCell (c : Dev nD) : GSem nD τ sig := ((c : Thread nD τ), .reg doneS)
abbrev sendCell (c : Dev nD) (j : Fin 7) : GSem nD τ sig := ((c : Thread nD τ), .dma (sendS j))
abbrev recvCell (c : Dev nD) (j : Fin 7) : GSem nD τ sig := ((c : Thread nD τ), .dma (recvS j))

theorem bar_ne_done : (barS : Sem sig) ≠ doneS := by decide

/-- What a copy of one slot credits. -/
abbrev N : ℕ := (recvM 0).view.dmaCredit
theorem N_pos : 0 < N := View.dmaCredit_pos _ (by decide)

/-! ## Contents -/

/-- What the pipeline stages of each argument on device `c`. -/
def xAt (c : Dev nD) : (cc0_stg0_0 : Ref sig .tc).ty.Contents (Elt F) :=
  (win0_0.blk (0 : Fin 1)).view.read (Elt F) ((mem₀ m ρ).mem ((c : Thread nD τ).loc main_arg0))
def wAt (c : Dev nD) : (cc0_stg1_0 : Ref sig .tc).ty.Contents (Elt F) :=
  (win0_1.blk (0 : Fin 1)).view.read (Elt F) ((mem₀ m ρ).mem ((c : Thread nD τ).loc main_arg1))
def rAt (c : Dev nD) : (cc0_stg2_0 : Ref sig .tc).ty.Contents (Elt F) :=
  (win0_2.blk (0 : Fin 1)).view.read (Elt F) ((mem₀ m ρ).mem ((c : Thread nD τ).loc main_arg2))
def eAt (c : Dev nD) : (cc0_stg3_0 : Ref sig .tc).ty.Contents (Elt F) :=
  (win0_3.blk (0 : Fin 1)).view.read (Elt F) ((mem₀ m ρ).mem ((c : Thread nD τ).loc main_arg3))
def hAt (c : Dev nD) : (cc0_stg4_0 : Ref sig .tc).ty.Contents (Elt F) :=
  (win0_4.blk (0 : Fin 1)).view.read (Elt F) ((mem₀ m ρ).mem ((c : Thread nD τ).loc main_arg4))

/-- The probability each token's selected expert gets, on device `c`. -/
def pAt (c : Dev nD) : (cc0_scratch0 : Ref sig .tc).ty.Contents (Elt F) := k0_pay1 (xAt m ρ c) (wAt m ρ c) (rAt m ρ c)

/-- The device's number as the kernel computes it. -/
def num (c : Dev nD) : BitVec 32 := Scalar.remsi (Scalar.divsi (Dev.word c) 1#32) 8#32

theorem rows_inb (d : Dev nD) (a : Fin 2) : (![256 * d.val, 0] : Fin 2 → ℕ) a + S256x512.size a ≤ S2048x512.size a := by
  revert d a; decide
theorem col_inb (d : Dev nD) (a : Fin 2) : (![256 * d.val, 0] : Fin 2 → ℕ) a + S256x1.size a ≤ S2048x1.size a := by
  revert d a; decide
theorem exp_inb (e : Fin 4) (a : Fin 3) : (![e.val, 0, 0] : Fin 3 → ℕ) a + S1x512x1024.size a ≤ S4x512x1024.size a := by
  revert e a; decide

/-- The rows of device `d`: its 256 tokens in the token array, in a one-column array; expert `e` in the device's four. -/
abbrev rowsR (d : Dev nD) : Rect S2048x512 := Rect.unit (s := S2048x512) ![256 * d.val, 0] S256x512.size (rows_inb d)
abbrev colR (d : Dev nD) : Rect S2048x1 := Rect.unit (s := S2048x1) ![256 * d.val, 0] S256x1.size (col_inb d)
abbrev expR (e : Fin 4) : Rect S4x512x1024 := Rect.unit (s := S4x512x1024) ![e.val, 0, 0] S1x512x1024.size (exp_inb e)

/-- Device `d`'s tokens, their probabilities and their route indices as device `c` reads them; expert `e` of device `c`. -/
def xRows (c d : Dev nD) : Vec F S256x512 .bf16 := (xM : Memref sig .tc .vmem S2048x512 .bf16).view.readAt (Elt F) (rowsR d).toLoadRect (xAt m ρ c)
def pRows (c d : Dev nD) : Vec F S256x1 .f32 := (pM : Memref sig .tc .vmem S2048x1 .f32).view.readAt (Elt F) (colR d).toLoadRect (pAt m ρ c)
def rRows (c d : Dev nD) : Vec F S256x1 .i32 := (rM : Memref sig .tc .vmem S2048x1 .i32).view.readAt (Elt F) (colR d).toLoadRect (rAt m ρ c)
def expert (c : Dev nD) (e : Fin 4) : Vec F S1x512x1024 .bf16 := (eM : Memref sig .tc .vmem S4x512x1024 .bf16).view.readAt (Elt F) (expR e).toLoadRect (eAt m ρ c)

/-- What device `c`'s four experts contribute to device `d`'s tokens, rounded as it is sent. -/
def partOf (c d : Dev nD) : Vec F S1x256x1024 .bf16 :=
  k0_pay10 (Scalar.muli (num c) 4#32) (k0_pay3 (expert m ρ c 1)) (k0_pay4 (expert m ρ c 2)) (k0_pay5 (expert m ρ c 3))
    (k0_pay6 (xRows m ρ c d)) (pRows m ρ c d) (k0_pay7 (rRows m ρ c d))
    (k0_pay8 (num c) (expert m ρ c 0) (xRows m ρ c d) (pRows m ρ c d) (rRows m ρ c d)) (k0_pay9 (num c))

/-- What the device's own experts contribute to its own tokens. -/
def ownPart (c : Dev nD) : FVec F S256x1024 .f32 :=
  k0_pay43 (Scalar.muli (num c) 4#32) (k0_pay2 (expert m ρ c 0)) (k0_pay3 (expert m ρ c 1)) (k0_pay4 (expert m ρ c 2)) (k0_pay5 (expert m ρ c 3))
    (k0_pay40 (xRows m ρ c c)) (pRows m ρ c c) (k0_pay41 (rRows m ρ c c)) (k0_pay42 (F := F)) 0#32

/-- The device's result: its own contribution, the shared expert's, and the seven that arrive. -/
def outAt (c : Dev nD) : (cc0_stg5_0 : Ref sig .tc).ty.Contents (Elt F) :=
  k0_pay47
    (k0_pay46
      (k0_pay45
        (k0_pay44 (ownPart m ρ c) (xRows m ρ c c) (hAt m ρ c) (partOf m ρ (peer c 6) c) (partOf m ρ (peer c 5) c))
        (partOf m ρ (peer c 4) c) (partOf m ρ (peer c 3) c))
      (partOf m ρ (peer c 2) c) (partOf m ρ (peer c 1) c))
    (partOf m ρ (peer c 0) c)

/-! ## A slot held -/

/-- Device `c`'s send slot `j` at contents `f`; its receive slot `j` at contents `f`. -/
def sendPts (c : Dev nD) (j : Fin 7) (f : Buf (Elt F) ((c : Thread nD τ).loc cc0_scratch1)) : sProp (MM F) :=
  (sendM j).view.loc (c : Thread nD τ) ↦[(sendM j).view.set]{fullShare} f
def recvPts (c : Dev nD) (j : Fin 7) (f : Buf (Elt F) ((c : Thread nD τ).loc cc0_scratch2)) : sProp (MM F) :=
  (recvM j).view.loc (c : Thread nD τ) ↦[(recvM j).view.set]{fullShare} f

/-- What the receive slot `j` reads. -/
abbrev recvRead (j : Fin 7) (f : (cc0_scratch2 : Ref sig .tc).ty.Contents (Elt F)) : Vec F S1x256x1024 .bf16 :=
  (vM : Memref sig .tc .vmem S7x256x1024 .bf16).view.readAt (Elt F) (slotR j).toLoadRect f
abbrev sendRead (j : Fin 7) (f : (cc0_scratch1 : Ref sig .tc).ty.Contents (Elt F)) : Vec F S1x256x1024 .bf16 :=
  (sM : Memref sig .tc .vmem S7x256x1024 .bf16).view.readAt (Elt F) (slotR j).toLoadRect f

omit [FloatOps F] in
instance sendPts_storable (c : Dev nD) (j f) : BI.Storable (upEmb : UEmb _ (MM F)) (sendPts (F := F) c j f) := by unfold sendPts; infer_instance
omit [FloatOps F] in
instance recvPts_storable (c : Dev nD) (j f) : BI.Storable (upEmb : UEmb _ (MM F)) (recvPts (F := F) c j f) := by unfold recvPts; infer_instance

omit [FloatOps F] in
/-- A slot copied onto a slot reads what was copied. -/
theorem recvRead_copy (j j' : Fin 7) (fd : (cc0_scratch2 : Ref sig .tc).ty.Contents (Elt F)) (fs : (cc0_scratch1 : Ref sig .tc).ty.Contents (Elt F)) :
    recvRead j' ((recvM j').view.write (Elt F) fd ((sendM j).view.read (Elt F) fs) Finset.univ) = sendRead j fs := by
  have h := View.read_write_univ (Val := Elt F) (v := (recvM j').view) fd ((sendM j).view.read (Elt F) fs)
  have hr : ∀ g, (recvM j').view.read (Elt F) g = shapeCast S256x1024 (recvRead j' g) shapeCasts_S1x256x1024_S256x1024 := fun g => rfl
  have hs : (sendM j).view.read (Elt F) fs = shapeCast S256x1024 (sendRead j fs) shapeCasts_S1x256x1024_S256x1024 := rfl
  have h' := congrArg (fun v => shapeCast S1x256x1024 v shapeCasts_S256x1024_S1x256x1024) ((hr _).symm.trans (h.trans hs))
  exact (shapeCast_shapeCast _ _ _).symm.trans (h'.trans (shapeCast_shapeCast _ _ _))

theorem slots_disjoint {j j' : Fin 7} (h : j ≠ j') : Disjoint (slotR j).toLoadRect.set (slotR j').toLoadRect.set := by
  refine LoadRect.disjoint_of_separated _ _ (0 : Fin 3) ?_
  have : j.val ≠ j'.val := fun e => h (Fin.ext e)
  show ((1 = 0) ∨ (j.val + 1 * (1 - 1) < j'.val)) ∨ ((1 = 0) ∨ (j'.val + 1 * (1 - 1) < j.val))
  omega

end Cert.Moe

end
-- ==== Proof.Schedule.lean ====
/-
The exchange's one round. Every device raises the barrier semaphore of the seven others, handing each the receive
slot it will fill; a copy credits the sender's send cell, which gives the slot back, and the receiver's receive cell,
which hands over the slot holding the contribution that was sent; at the end every device raises the closing
semaphore of the seven others.
-/
module

public import proofs.«01_k».proof.Proof.Ring

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## What each duty hands over -/

/-- Barrier duty `k` of device `c`, paid by the device `7 - k` places on: that device's receive slot `k`, and that it
    stands at round 0 of the slot's receive cell. -/
def barPay (c : Dev nD) (k : Fin 7) : sProp (MM F) :=
  iprop((∃ f, recvPts (peer c k.rev) k f) ∗ reached EX (recvCell (peer c k.rev) k) 0)
/-- The send cell of slot `j`: the slot back. -/
def sendPay (c : Dev nD) (j : Fin 7) : sProp (MM F) := iprop(∃ f, sendPts c j f)
/-- The receive cell of slot `s`: the slot, holding what the device `s + 1` places on computed for this one. -/
def recvPay (c : Dev nD) (s : Fin 7) : sProp (MM F) := iprop(∃ f, ⌜recvRead s f = partOf m ρ (peer c s) c⌝ ∗ recvPts c s f)

/-- Whether a semaphore is one of the exchange's two regular ones, one of its fourteen others. -/
abbrev IsSig (sm : SemLoc sig) : Prop := sm = .reg barS ∨ sm = .reg doneS
abbrev IsCopy (sm : SemLoc sig) : Prop := ∃ j : Fin 7, sm = .dma (sendS j) ∨ sm = .dma (recvS j)

/-- What duty `d` of semaphore `sm` of device `c` hands over. -/
def payOf (c : Dev nD) (sm : SemLoc sig) (d : Fin 7) : sProp (MM F) :=
  match sm with
  | .reg s => if s = barS then barPay c d else iprop(emp)
  | .dma q =>
    if h : 13 ≤ q.val ∧ q.val < 20 then recvPay m ρ c ⟨q.val - 13, by omega⟩
    else if h : 6 ≤ q.val ∧ q.val < 13 then sendPay c ⟨q.val - 6, by omega⟩
    else iprop(emp)

/-- The schedule: at round 0 the barrier and closing cells have the seven duties, one unit each; every send and
    receive cell the one duty 0, a slot's credit. -/
def sched : Rounds.Schedule (GSem nD τ sig) (Fin 7) (MM F) where
  duties g r := if r = 0 ∧ g.1.2 = .tc ∧ IsSig g.2 then Finset.univ else if r = 0 ∧ g.1.2 = .tc ∧ IsCopy g.2 then {0} else ∅
  unitless _ := False
  amount g _ _ := if IsSig g.2 then 1 else N
  payload g _ d := payOf m ρ g.1.1 g.2 d
  amount_pos g _ _ _ := by
    by_cases h : IsSig g.2
    · rw [if_pos h]; exact Nat.one_pos
    · rw [if_neg h]; exact N_pos

instance sched_storable (g : GSem nD τ sig) (r : ℕ) (d : Fin 7) :
    BI.Storable (upEmb : UEmb _ (MM F)) ((sched (F := F) m ρ).payload g r d) := by
  show BI.Storable upEmb (payOf m ρ g.1.1 g.2 d)
  unfold payOf
  split
  · unfold barPay; split <;> infer_instance
  · unfold recvPay sendPay; (repeat' split) <;> infer_instance

section Tables
variable (c : Dev nD) (j : Fin 7)

theorem bar_isSig : IsSig (SemLoc.reg barS : SemLoc sig) := Or.inl rfl
theorem done_isSig : IsSig (SemLoc.reg doneS : SemLoc sig) := Or.inr rfl
theorem dma_not_isSig (q : DmaSem sig) : ¬ IsSig (SemLoc.dma q : SemLoc sig) := by
  rintro (h | h) <;> cases h

theorem duties_bar : (sched (F := F) m ρ).duties (barCell c) 0 = Finset.univ := by
  dsimp only [sched]; exact if_pos ⟨rfl, rfl, bar_isSig⟩
theorem duties_done : (sched (F := F) m ρ).duties (doneCell c) 0 = Finset.univ := by
  dsimp only [sched]; exact if_pos ⟨rfl, rfl, done_isSig⟩
theorem duties_dma (q : DmaSem sig) (h : IsCopy (.dma q)) : (sched (F := F) m ρ).duties ((c : Thread nD τ), .dma q) 0 = {0} := by
  dsimp only [sched]
  exact (if_neg fun h' => dma_not_isSig q h'.2.2).trans (if_pos ⟨rfl, rfl, h⟩)
theorem duties_send : (sched (F := F) m ρ).duties (sendCell c j) 0 = {0} := duties_dma m ρ c _ ⟨j, .inl rfl⟩
theorem duties_recv : (sched (F := F) m ρ).duties (recvCell c j) 0 = {0} := duties_dma m ρ c _ ⟨j, .inr rfl⟩
/-- There is no later round. -/
theorem duties_later (g : GSem nD τ sig) : ∀ r, 1 ≤ r → (sched (F := F) m ρ).duties g r = ∅ := fun r hr => by
  dsimp only [sched]; rw [if_neg fun h => by omega, if_neg fun h => by omega]

theorem amount_bar (d : Fin 7) : (sched (F := F) m ρ).amount (barCell c) 0 d = 1 := by dsimp only [sched]; exact if_pos bar_isSig
theorem amount_done (d : Fin 7) : (sched (F := F) m ρ).amount (doneCell c) 0 d = 1 := by dsimp only [sched]; exact if_pos done_isSig
theorem amount_dma (q : DmaSem sig) (d : Fin 7) : (sched (F := F) m ρ).amount ((c : Thread nD τ), .dma q) 0 d = N := by dsimp only [sched]; exact if_neg (dma_not_isSig q)

theorem expect_bar : (sched (F := F) m ρ).expect (barCell c) 0 = 7 := by
  unfold Schedule.expect Schedule.amountOf
  rw [duties_bar, Finset.sum_congr rfl fun d _ => amount_bar m ρ c d]; rfl
theorem expect_done : (sched (F := F) m ρ).expect (doneCell c) 0 = 7 := by
  unfold Schedule.expect Schedule.amountOf
  rw [duties_done, Finset.sum_congr rfl fun d _ => amount_done m ρ c d]; rfl
theorem expect_send : (sched (F := F) m ρ).expect (sendCell c j) 0 = N := by
  unfold Schedule.expect Schedule.amountOf; rw [duties_send, Finset.sum_singleton, amount_dma]
theorem expect_recv : (sched (F := F) m ρ).expect (recvCell c j) 0 = N := by
  unfold Schedule.expect Schedule.amountOf; rw [duties_recv, Finset.sum_singleton, amount_dma]

theorem payload_bar (d : Fin 7) : (sched (F := F) m ρ).payload (barCell c) 0 d = barPay c d := by dsimp only [sched, payOf]; exact if_pos rfl
theorem payload_done (d : Fin 7) : (sched (F := F) m ρ).payload (doneCell c) 0 d = iprop(emp) := by dsimp only [sched, payOf]; exact if_neg bar_ne_done.symm
theorem payload_send (d : Fin 7) : (sched (F := F) m ρ).payload (sendCell c j) 0 d = sendPay c j := by
  have h1 : ¬ (13 ≤ (sendS j).val ∧ (sendS j).val < 20) := by show ¬ (13 ≤ 6 + j.val ∧ 6 + j.val < 20); omega
  have h2 : 6 ≤ (sendS j).val ∧ (sendS j).val < 13 := by show 6 ≤ 6 + j.val ∧ 6 + j.val < 13; omega
  dsimp only [sched, payOf]
  refine (dif_neg h1).trans ((dif_pos h2).trans (congrArg (sendPay c) (Fin.ext ?_)))
  show 6 + j.val - 6 = j.val
  omega
theorem payload_recv (d : Fin 7) : (sched (F := F) m ρ).payload (recvCell c j) 0 d = recvPay m ρ c j := by
  have h1 : 13 ≤ (recvS j).val ∧ (recvS j).val < 20 := by show 13 ≤ 13 + j.val ∧ 13 + j.val < 20; omega
  dsimp only [sched, payOf]
  refine (dif_pos h1).trans (congrArg (recvPay m ρ c) (Fin.ext ?_))
  show 13 + j.val - 13 = j.val
  omega

/-- Seven things, one by one. -/
theorem sep7 {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem rest_bar : bigSep ((sched (F := F) m ρ).duties (barCell c) 0 \ ∅) (fun d => (sched (F := F) m ρ).payload (barCell c) 0 d)
    = bigSep Finset.univ fun d => barPay c d := by
  rw [Finset.sdiff_empty, duties_bar]; exact bigSep_congr fun d _ => payload_bar m ρ c d
theorem rest_send : bigSep ((sched (F := F) m ρ).duties (sendCell c j) 0 \ ∅) (fun d => (sched (F := F) m ρ).payload (sendCell c j) 0 d) = sendPay c j := by
  rw [Finset.sdiff_empty, duties_send, bigSep_singleton, payload_send]
theorem rest_recv : bigSep ((sched (F := F) m ρ).duties (recvCell c j) 0 \ ∅) (fun d => (sched (F := F) m ρ).payload (recvCell c j) 0 d) = recvPay m ρ c j := by
  rw [Finset.sdiff_empty, duties_recv, bigSep_singleton, payload_recv]

end Tables

/-! ## What a device owes -/

/-- What is left of seven debts from the `n`-th on. -/
def left (X : Fin 7 → CellTallies nD τ sig Unit) (n : ℕ) : CellTallies nD τ sig Unit := ∑ k ∈ Finset.univ.filter (fun k : Fin 7 => n ≤ k.val), X k

/-- Paying the `k`-th leaves the later ones. -/
theorem left_peel (X : Fin 7 → CellTallies nD τ sig Unit) (k : Fin 7) : left X k.val = left X (k.val + 1) + X k := by
  unfold left
  rw [show Finset.univ.filter (fun i : Fin 7 => k.val ≤ i.val) = insert k (Finset.univ.filter (fun i : Fin 7 => k.val + 1 ≤ i.val)) from by
    ext i; simp only [Finset.mem_filter, Finset.mem_insert, Finset.mem_univ, true_and, Fin.ext_iff]; omega,
    Finset.sum_insert (by simp), add_comm]

theorem left_seven (X : Fin 7 → CellTallies nD τ sig Unit) : left X 7 = 0 := by
  unfold left
  rw [show Finset.univ.filter (fun i : Fin 7 => 7 ≤ i.val) = ∅ from by
    ext i; have := i.isLt; simp only [Finset.mem_filter, Finset.mem_univ, true_and, Finset.notMem_empty, iff_false]; omega, Finset.sum_empty]

theorem left_pos {X : Fin 7 → CellTallies nD τ sig Unit} {n : ℕ} {g : GSem nD τ sig} {u : Unit} (h : 0 < left X n g u) : ∃ k, 0 < X k g u := by
  by_contra hn
  have h0 : ∀ k, X k g u = 0 := fun k => Nat.eq_zero_of_not_pos fun hk => hn ⟨k, hk⟩
  unfold left at h
  rw [Finset.sum_apply, Finsupp.finset_sum_apply, Finset.sum_eq_zero fun k _ => h0 k] at h
  exact Nat.lt_irrefl 0 h

/-- The barrier units, the copies' credits and the closing units device `c` owes, by offset. -/
def owB (c : Dev nD) (k : Fin 7) : CellTallies nD τ sig Unit := tallyAt (barCell (peer c k)) () 1
def owV (c : Dev nD) (k : Fin 7) : CellTallies nD τ sig Unit := tallyAt (recvCell (peer c k) k.rev) () N
def owD (c : Dev nD) (k : Fin 7) : CellTallies nD τ sig Unit := tallyAt (doneCell (peer c k)) () 1

/-- What device `c` owes at launch. -/
def O₀ (c : Dev nD) : CellTallies nD τ sig Unit := left (owD c) 0 + left (owV c) 0 + left (owB c) 0

/-! ## The order of waiting -/

/-- Whether a core's semaphores take part: a TensorCore's do. -/
def L (g : GSem nD τ sig) : Finset Unit := if g.1.2 = .tc then {()} else ∅
/-- Staging and send cells at 0, barrier cells at 1, receive cells at 2, closing cells at 3. -/
def rank : SemLoc sig → ℕ
  | .reg s => if s = barS then 1 else 3
  | .dma q => if 13 ≤ q.val then 2 else 0
def lv (g : GSem nD τ sig) (_ : Unit) : ℕ := rank g.2

theorem L_of_ne (g : GSem nD τ sig) (h : g.1.2 ≠ .tc) : L g = ∅ := if_neg h
theorem L_tc (c : Dev nD) (sm : SemLoc sig) : L ((c : Thread nD τ), sm) = {()} := if_pos rfl

theorem rank_bar : rank (.reg barS) = 1 := by unfold rank; exact if_pos rfl
theorem rank_done : rank (.reg doneS) = 3 := by unfold rank; exact if_neg bar_ne_done.symm
theorem rank_recv (j : Fin 7) : rank (.dma (recvS j)) = 2 := by unfold rank; exact if_pos (by show 13 ≤ 13 + j.val; omega)
theorem rank_send (j : Fin 7) : rank (.dma (sendS j)) = 0 := by unfold rank; exact if_neg (by show ¬ 13 ≤ 6 + j.val; omega)

/-- Every cell owed is a TensorCore's, and of a rank above `n`. -/
def Above (n : ℕ) (O : CellTallies nD τ sig Unit) : Prop := ∀ g u, 0 < O g u → g.1.2 = .tc ∧ n < rank g.2

theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0

theorem above_left {n k : ℕ} {X : Fin 7 → CellTallies nD τ sig Unit} (h : ∀ i, Above n (X i)) : Above n (left X k) := fun g u hg => by
  obtain ⟨i, hi⟩ := left_pos hg; exact h i g u hi

theorem above_tally {n a : ℕ} (c : Dev nD) (sm : SemLoc sig) (h : n < rank sm) : Above n (tallyAt ((c : Thread nD τ), sm) () a) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)

theorem above_B (c : Dev nD) (k : ℕ) : Above 0 (left (owB c) k) := above_left fun i => above_tally _ _ (by rw [rank_bar]; decide)
theorem above_V (c : Dev nD) {n : ℕ} (hn : n < 2) (k : ℕ) : Above n (left (owV c) k) := above_left fun i => above_tally _ _ (by rw [rank_recv]; exact hn)
theorem above_D (c : Dev nD) {n : ℕ} (hn : n < 3) (k : ℕ) : Above n (left (owD c) k) := above_left fun i => above_tally _ _ (by rw [rank_done]; exact hn)
theorem above_O₀ (c : Dev nD) : Above 0 (O₀ c) := ((above_D c (by decide) 0).add (above_V c (by decide) 0)).add (above_B c 0)
theorem above_zero (n : ℕ) : Above n 0 := fun g u hg => absurd hg (Nat.lt_irrefl 0)

/-- A device may wait on a semaphore ranked below everything it owes. -/
theorem mayWait (c : Dev nD) (sm : SemLoc sig) (O : CellTallies nD τ sig Unit) (h : Above (rank sm) O) :
    (levAts L lv : sProp (MM F)) ⊢ MayWait (c : Thread nD τ) sm () O :=
  MayOwe.of_cut (L := L) (lev := lv) (rank sm)
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

end Cert.Moe

end
-- ==== Proof.Steps.lean ====
/-
The kernel's steps, each stated once for any offset or slot: raise a device's barrier, wait on one's own, read a
device's rows, fill a send slot and copy it out, wait for a receive slot and read it, wait for a send slot, raise a
device's closing semaphore, wait on one's own.
-/
module

public import proofs.«01_k».proof.Proof.Schedule
public import Idealize.ShloMosaic.Lib.Exec.Geometry

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## A device's sixteen cells, numbered -/

/-- Send semaphores 0 to 6, receive semaphores 7 to 13, the closing semaphore 14, the barrier 15. -/
def csem (i : Fin 16) : SemLoc sig :=
  if h : i.val < 14 then .dma ⟨6 + i.val, by show 6 + i.val < 20; omega⟩ else if i.val = 14 then .reg doneS else .reg barS
abbrev cell (ci : Dev nD × Fin 16) : GSem nD τ sig := ((ci.1 : Thread nD τ), csem ci.2)

def iSend (j : Fin 7) : Fin 16 := ⟨j.val, by omega⟩
def iRecv (j : Fin 7) : Fin 16 := ⟨7 + j.val, by omega⟩

theorem csem_send (j : Fin 7) : csem (iSend j) = .dma (sendS j) := dif_pos (show j.val < 14 by omega)
theorem csem_recv (j : Fin 7) : csem (iRecv j) = .dma (recvS j) :=
  (dif_pos (show 7 + j.val < 14 by omega)).trans (congrArg SemLoc.dma (Fin.ext (show 6 + (7 + j.val) = 13 + j.val by omega)))
theorem csem_done : csem 14 = .reg doneS := rfl
theorem csem_bar : csem 15 = .reg barS := rfl

/-- Every cell's invariant, under the names `K`, and that every cell has reached round 0. -/
def records (K : Dev nD × Fin 16 → ℕ) : sProp (MM F) :=
  iprop((bigSep Finset.univ fun ci : Dev nD × Fin 16 => cellInv EX (sched m ρ) (K ci) (cell ci))
    ∗ bigSep Finset.univ fun ci : Dev nD × Fin 16 => reached EX (cell ci) 0)

instance records_persistent (K : Dev nD × Fin 16 → ℕ) : BI.Persistent (records (F := F) m ρ K) := by unfold records; infer_instance

variable (K : Dev nD × Fin 16 → ℕ)

/-- One cell's invariant and mark, out of all. -/
theorem record_at (c : Dev nD) (i : Fin 16) (sm : SemLoc sig) (h : csem i = sm) :
    records (F := F) m ρ K ⊢ iprop(cellInv EX (sched m ρ) (K (c, i)) ((c : Thread nD τ), sm) ∗ reached EX ((c : Thread nD τ), sm) 0) := by
  subst h
  exact BIClass.sep_mono (bigSep_elim (Finset.mem_univ (c, i))) (bigSep_elim (Finset.mem_univ (c, i)))

/-! ## The rules -/

/-- The rest of device `c`'s run. -/
abbrev run (c : Dev nD) {α : Type} (k : Prog (TpuEff nD τ sig (Elt F) Λ₀ .tc) α) (Q : α → sProp (MM F)) : sProp (MM F) :=
  wp frame (wpE (defs₀ (F := F)) Variants.none (c : Thread nD τ) none) Set.univ k Q

/-- What device `c` owes, whatever it has waited on. -/
def debt (c : Dev nD) (O : CellTallies nD τ sig Unit) : sProp (MM F) := iprop(∃ W : Waits sig Unit, owes (c : Thread nD τ) O W)

section
variable (c : Dev nD) {α : Type} {Q : α → sProp (MM F)}

/-- Raising the barrier of the device `k + 1` places on hands it receive slot `k`. -/
theorem step_bar (k : Fin 7) (i i' : ℕ) {n : Dev nD} (hn : n = peer c k) (hi : i = k.val) (hi' : i' = k.val + 1)
    {X : CellTallies nD τ sig Unit} {kk : PUnit → Prog (TpuEff nD τ sig (Elt F) Λ₀ .tc) α} :
    records (F := F) m ρ K ⊢ iprop(dutyTok EX (barCell (peer c k)) 0 k -∗ (∃ f, recvPts c k f) -∗ debt c (X + left (owB c) i)
      -∗ (debt c (X + left (owB c) i') -∗ run c (kk ⟨⟩) Q) -∗ run c (.op (.semSignal (n : Thread nD τ) barS (1#32 : BitVec 32).toNat) kk) Q) := by
  subst hn; subst hi; subst hi'
  iintro #Hrec Ht Hv Hd Hk
  ihave Hr := (record_at m ρ K (peer c k) 15 _ csem_bar) $$ Hrec
  icases Hr with ⟨#HI, #HR⟩
  ihave Hr' := (record_at m ρ K c (iRecv k) _ (csem_recv k)) $$ Hrec
  icases Hr' with ⟨-, #HR'⟩
  unfold debt
  icases Hd with ⟨%W, HO⟩
  iapply (Rounds.wp_signal Variants.none EX (sched m ρ) (c : Thread nD τ) none (dst := (peer c k : Thread nD τ)) (κ := K (peer c k, 15))
      (d := k) (by rw [duties_bar]; exact Finset.mem_univ _) ((amount_bar m ρ (peer c k) k).trans (by decide)) () (O₀ := X + left (owB c) k.val) (X + left (owB c) (k.val + 1))
      (by rw [left_peel, ← add_assoc]; rfl) (W := W)) $$ [HO Ht Hv]
  · isplitr; · iexact HI
    isplitl [HO]; · iexact HO
    isplitl [Ht]; · iexact Ht
    isplitl [Hv]
    · rw [payload_bar]; unfold barPay; rw [peer_rev]
      isplitl [Hv]; · iexact Hv
      iexact HR'
    iexact HR
  iintro HO
  iapply Hk
  iexists W; iexact HO

/-- Waiting on the own barrier brings a receive slot of every other device, and closes the cell. -/
theorem step_barWait {kk : PUnit → Prog (TpuEff nD τ sig (Elt F) Λ₀ .tc) α} :
    records (F := F) m ρ K ⊢ iprop(levAts L lv -∗ cred (tallyAt (barCell c) () 7) -∗ debt c (left (owD c) 0 + left (owV c) 0) -∗ atPos EX (barCell c) 0 ∅ 0
      -∗ (iprop((bigSep Finset.univ fun d => barPay c d) ∗ semVal (barCell c) 0 ∗ debt c (left (owD c) 0 + left (owV c) 0)) -∗ run c (kk ⟨⟩) Q)
      -∗ run c (.op (.semWait barS (7#32 : BitVec 32).toNat) kk) Q) := by
  iintro #Hrec #Hlev Hc Hd Hat Hk
  ihave Hr := (record_at m ρ K c 15 _ csem_bar) $$ Hrec
  icases Hr with ⟨#HI, #HR⟩
  unfold debt
  icases Hd with ⟨%W, HO⟩
  iapply (Rounds.wp_wait_rest_token Variants.none EX (sched m ρ) (c : Thread nD τ) none (κ := K (c, 15))
      (wpE_semWait_eq Variants.none (c : Thread nD τ) none Set.univ) (Set.mem_univ _) () (O := left (owD c) 0 + left (owV c) 0) (W := W) (R := 0) (m := 0) (T := ∅)
      (by rw [expect_bar]; decide)) $$ [Hc HO Hat]
  · isplitr; · iexact HI
    isplitl [Hc]; · iexact Hc
    isplitl [HO]; · iexact HO
    isplitr; · iapply (mayWait c _ _ (by rw [rank_bar]; exact (above_D c (by decide) 0).add (above_V c (by decide) 0))); iexact Hlev
    iexact Hat
  iintro ⟨HO, Hat, -, Hpay⟩
  ihave Hp := (Entails.of_eq (rest_bar m ρ c)) $$ Hpay
  imod (Rounds.cell_close EX (sched m ρ) (Set.mem_univ (K (c, 15))) (fun h => h) (R := 0 + 1) (duties_later m ρ (barCell c))) $$ [Hat] with Hz
  · isplitr; · iexact HI
    iexact Hat
  iapply Hk
  isplitl [Hp]; · iexact Hp
  isplitl [Hz]; · iexact Hz
  iexists _; iexact HO

/-- Reading device `d`'s rows of the tokens, of the probabilities and of the route indices. -/
theorem step_rows (d : Dev nD) {o₁ : Fin 2 → ℕ} {o₂ : Fin 2 → ℕ} (h₁ : o₁ = ![256 * d.val, 0]) (h₂ : o₂ = ![256 * d.val, 0])
    {b₁ : ∀ a, o₁ a + S256x512.size a ≤ S2048x512.size a} {b₂ : ∀ a, o₂ a + S256x1.size a ≤ S2048x1.size a} {l₁ l₂ l₃}
    {kk : Vec F S256x512 .bf16 → Vec F S256x1 .f32 → Vec F S256x1 .i32 → Prog (TpuEff nD τ sig (Elt F) Λ₀ .tc) α} :
    iprop((((c : Thread nD τ).loc cc0_stg0_0) ↦{fullShare} xAt m ρ c) ∗ (((c : Thread nD τ).loc cc0_scratch0) ↦{fullShare} pAt m ρ c) ∗ (((c : Thread nD τ).loc cc0_stg2_0) ↦{fullShare} rAt m ρ c))
      ⊢ iprop((iprop((((c : Thread nD τ).loc cc0_stg0_0) ↦{fullShare} xAt m ρ c) ∗ (((c : Thread nD τ).loc cc0_scratch0) ↦{fullShare} pAt m ρ c) ∗ (((c : Thread nD τ).loc cc0_stg2_0) ↦{fullShare} rAt m ρ c))
          -∗ run c (kk (xRows m ρ c d) (pRows m ρ c d) (rRows m ρ c d)) Q)
        -∗ run c (.op (.load xM (Rect.unit (s := S2048x512) o₁ S256x512.size b₁).toLoadRect l₁) fun x =>
            .op (.load pM (Rect.unit (s := S2048x1) o₂ S256x1.size b₂).toLoadRect l₂) fun p =>
            .op (.load rM (Rect.unit (s := S2048x1) o₂ S256x1.size b₂).toLoadRect l₃) fun r => kk x p r) Q) := by
  subst h₁; subst h₂
  iintro ⟨Hx, Hp, Hr⟩ Hk
  iapply (wp_load Variants.none (c : Thread nD τ) none Set.univ (m := xM) (Finset.subset_univ _)) $$ Hx; iintro Hx
  iapply (wp_load Variants.none (c : Thread nD τ) none Set.univ (m := pM) (Finset.subset_univ _)) $$ Hp; iintro Hp
  iapply (wp_load Variants.none (c : Thread nD τ) none Set.univ (m := rM) (Finset.subset_univ _)) $$ Hr; iintro Hr
  iapply Hk
  isplitl [Hx]; · iexact Hx
  isplitl [Hp]; · iexact Hp
  iexact Hr

/-- A copy of any slot credits the same. -/
theorem credit_slot (j : Fin 7) : (recvM j).view.dmaCredit = N := rfl

/-- Storing `w` into send slot `j` makes the slot read `w`. -/
theorem sendRead_store (j : Fin 7) (f : (cc0_scratch1 : Ref sig .tc).ty.Contents (Elt F)) (w : Vec F S1x256x1024 .bf16) :
    sendRead j (((sM : Memref sig .tc .vmem S7x256x1024 .bf16).access (slotR j)).write (Elt F) f w Finset.univ) = w :=
  View.read_write_univ (Val := Elt F) (v := (sM : Memref sig .tc .vmem S7x256x1024 .bf16).access (slotR j)) f w

/-- The elements of send slot `j`, however it is named. -/
theorem send_set (j : Fin 7) : (sendM j).view.set = ((sM : Memref sig .tc .vmem S7x256x1024 .bf16).access (slotR j)).set := Memref.set_view_squeeze _ _
theorem recv_set (j : Fin 7) : (recvM j).view.set = ((vM : Memref sig .tc .vmem S7x256x1024 .bf16).access (slotR j)).set := Memref.set_view_squeeze _ _

/-- A slot is whole words, so a copy may move it. -/
theorem slot_words : ∀ j : Fin 7, (slotR j).WholeWords (EltTy.packing .bf16) := by decide
theorem send_words (j : Fin 7) : (sendM j).view.WordExact := ((Memref.isWhole_whole cc0_scratch1).wordExact_slice rfl _ (slot_words j)).reshape _ _
theorem recv_words (j : Fin 7) : (recvM j).view.WordExact := ((Memref.isWhole_whole cc0_scratch2).wordExact_slice rfl _ (slot_words j)).reshape _ _

/-- Filling send slot `j`: the value it held is read and dropped, then `w` is stored. -/
theorem step_fill (j : Fin 7) {o : ℕ} (ho : o = j.val) {b : ∀ a, (![o, 0, 0] : Fin 3 → ℕ) a + S1x256x1024.size a ≤ S7x256x1024.size a}
    {w w' : Vec F S1x256x1024 .bf16} (hw : w = w') {l s₁ s₂} {kk : PUnit → Prog (TpuEff nD τ sig (Elt F) Λ₀ .tc) α} :
    iprop(∃ f, sendPts c j f) ⊢ iprop((iprop(∃ f, ⌜sendRead j f = w'⌝ ∗ sendPts c j f) -∗ run c (kk ⟨⟩) Q)
      -∗ run c (.op (.load sM (Rect.unit (s := S7x256x1024) ![o, 0, 0] S1x256x1024.size b).toLoadRect l) fun _ =>
          .op (.store sM (Rect.unit (s := S7x256x1024) ![o, 0, 0] S1x256x1024.size b) w Finset.univ s₁ s₂) kk) Q) := by
  subst ho; subst hw
  unfold sendPts
  rw [send_set]
  iintro ⟨%f, Hs⟩ Hk
  iapply (wp_load_rect Variants.none (c : Thread nD τ) none Set.univ (m := sM) (r := slotR j) (subset_rfl)) $$ Hs; iintro Hs
  iapply (wp_store Variants.none (c : Thread nD τ) none Set.univ (m := sM) (r := slotR j) (Mk := Finset.univ) (by rw [View.setOn_univ])) $$ Hs; iintro Hs
  iapply Hk
  iexists _
  isplitr; · ipureintro; exact sendRead_store j f w
  iexact Hs

/-- Slot `j` holding a contribution, copied to slot `j'`, pays the receive cell. -/
theorem pay_copy (j : Fin 7) (f : Buf (Elt F) ((c : Thread nD τ).loc cc0_scratch1)) (fd : Buf (Elt F) ((peer c j : Thread nD τ).loc cc0_scratch2))
    (hf : sendRead j f = partOf m ρ c (peer c j)) :
    ((recvM j.rev).view.loc (peer c j : Thread nD τ) ↦[(recvM j.rev).view.set]{fullShare}
        ((recvM j.rev).view.write (Elt F) fd ((sendM j).view.read (Elt F) f) Finset.univ) : sProp (MM F))
      ⊢ (sched m ρ).payload (recvCell (peer c j) j.rev) 0 0 := by
  rw [payload_recv]
  unfold recvPay recvPts
  rw [peer_rev]
  iintro H; iexists _; isplitr
  · ipureintro; exact (recvRead_copy j j.rev fd f).trans hf
  · iexact H

theorem pay_sent (j : Fin 7) (f : Buf (Elt F) ((c : Thread nD τ).loc cc0_scratch1)) :
    ((sendM j).view.loc (c : Thread nD τ) ↦[(sendM j).view.set]{fullShare} f : sProp (MM F)) ⊢ (sched m ρ).payload (sendCell c j) 0 0 := by
  rw [payload_send]
  unfold sendPay sendPts
  iintro H; iexists f; iexact H

/-- Copying send slot `j`, filled with the contribution to the device `j + 1` places on, to that device's receive slot `6 - j`. -/
theorem step_copy (j s' : Fin 7) (i i' : ℕ) (hs' : s' = j.rev) {n : Dev nD} (hn : n = peer c j)
    {src : Memref sig .tc .vmem S256x1024 .bf16} (hsrc : src = sendM j) {dst : Memref sig .tc .vmem S256x1024 .bf16} (hdst : dst = recvM j.rev)
    {s r : DmaSem sig} (hs : s = sendS j) (hr : r = recvS j.rev) (hi : i = j.val) (hi' : i' = j.val + 1) {X : CellTallies nD τ sig Unit}
    {hsc : (show Memref sig (Dev.tc n : Thread nD τ).2.kind .vmem S256x1024 .bf16 from dst).view.ref.isScScratch = false}
    {w₁ : src.view.WordExact} {w₂ : (show Memref sig (Dev.tc n : Thread nD τ).2.kind .vmem S256x1024 .bf16 from dst).view.WordExact}
    {ty : DmaTarget.Typed .vmem (.dma r) (.remote (Dev.tc n : Thread nD τ) dst (.dma s) hsc)}
    {kk : PUnit → Prog (TpuEff nD τ sig (Elt F) Λ₀ .tc) α} :
    records (F := F) m ρ K ⊢ iprop((∃ f, ⌜sendRead j f = partOf m ρ c (peer c j)⌝ ∗ sendPts c j f) -∗ barPay c s' -∗ dutyTok EX (sendCell c j) 0 0
      -∗ dutyTok EX (recvCell (peer c j) j.rev) 0 0 -∗ debt c (X + left (owV c) i)
      -∗ (iprop(cred (tallyAt (sendCell c j) () N) ∗ debt c (X + left (owV c) i')) -∗ run c (kk ⟨⟩) Q)
      -∗ run c (.op (.enqueueDma src (.remote (Dev.tc n : Thread nD τ) dst (.dma s) hsc) (.dma r) w₁ w₂ ty) kk) Q) := by
  subst hn; subst hsrc; subst hdst; subst hs; subst hr; subst hi; subst hi'; subst hs'
  iintro #Hrec ⟨%f, %hf, Hs⟩ Hv Ht Ht' Hd Hk
  ihave Hr := (record_at m ρ K c (iSend j) _ (csem_send j)) $$ Hrec
  icases Hr with ⟨#HI, #HR⟩
  ihave Hr' := (record_at m ρ K (peer c j) (iRecv j.rev) _ (csem_recv j.rev)) $$ Hrec
  icases Hr' with ⟨#HI', #HR'⟩
  unfold debt barPay
  rw [Fin.rev_rev]
  icases Hd with ⟨%W, HO⟩
  icases Hv with ⟨⟨%fd, Hv⟩, -⟩
  unfold sendPts recvPts
  iapply (Rounds.wp_send_pointsTo Variants.none EX (sched m ρ) (c : Thread nD τ) none (c' := (peer c j : Thread nD τ)) (src := sendM j) (dst := recvM j.rev)
    (sS := .dma (sendS j)) (sem := .dma (recvS j.rev)) (κ₁ := K (c, iSend j)) (κ₂ := K (peer c j, iRecv j.rev))
    (r₁ := 0) (r₂ := 0) (d₁ := 0) (d₂ := 0) (fs := f) (fd := fd)
    (by rw [duties_send]; exact Finset.mem_singleton_self _) (by rw [duties_recv]; exact Finset.mem_singleton_self _)
    () () N (credit_slot j.rev) (amount_dma m ρ c _ 0) (amount_dma m ρ (peer c j) _ 0) (O₀ := X + left (owV c) j.val) (X + left (owV c) (j.val + 1))
    (by rw [left_peel, ← add_assoc]; rfl) (W := W)
    (pay_sent m ρ c j f) (pay_copy m ρ c j f fd hf)) $$ [Hs Hv HO Ht Ht']
  · isplitr; · iexact HI
    isplitr; · iexact HI'
    isplitl [Hs]; · iexact Hs
    isplitl [Hv]; · iexact Hv
    isplitl [HO]; · iexact HO
    isplitl [Ht]; · iexact Ht
    isplitr; · iexact HR
    isplitl [Ht']; · iexact Ht'
    iexact HR'
  iintro ⟨Hc, HO⟩
  iapply Hk
  isplitl [Hc]; · iexact Hc
  iexists W; iexact HO

/-- Waiting for receive slot `s` and reading it gives what the device `s + 1` places on computed for this one. -/
theorem step_recv (s : Fin 7) {q : DmaSem sig} (hq : q = recvS s) {o : ℕ} (ho : o = s.val)
    {b : ∀ a, (![o, 0, 0] : Fin 3 → ℕ) a + S1x256x1024.size a ≤ S7x256x1024.size a}
    {src dst : Memref sig .tc .vmem S256x1024 .bf16} {w₁ : src.view.WordExact} {w₂ : dst.view.WordExact} {l} (hN : dst.view.dmaCredit = N)
    {kk : Vec F S1x256x1024 .bf16 → Prog (TpuEff nD τ sig (Elt F) Λ₀ .tc) α} :
    records (F := F) m ρ K ⊢ iprop(levAts L lv -∗ cred (tallyAt (recvCell c s) () N) -∗ debt c (left (owD c) 0) -∗ atPos EX (recvCell c s) 0 ∅ 0
      -∗ (iprop((∃ f, recvPts c s f) ∗ semVal (recvCell c s) 0 ∗ debt c (left (owD c) 0)) -∗ run c (kk (partOf m ρ (peer c s) c)) Q)
      -∗ run c (.op (.waitDma2 q src dst w₁ w₂) fun _ =>
          .op (.load vM (Rect.unit (s := S7x256x1024) ![o, 0, 0] S1x256x1024.size b).toLoadRect l) kk) Q) := by
  subst hq; subst ho
  have hset : (recvM s).view.set = ((vM : Memref sig .tc .vmem S7x256x1024 .bf16).access (slotR s)).set := Memref.set_view_squeeze _ _
  iintro #Hrec #Hlev Hc Hd Hat Hk
  ihave Hr := (record_at m ρ K c (iRecv s) _ (csem_recv s)) $$ Hrec
  icases Hr with ⟨#HI, #HR⟩
  unfold debt
  icases Hd with ⟨%W, HO⟩
  iapply (Rounds.wp_wait_rest_token Variants.none EX (sched m ρ) (c : Thread nD τ) none (κ := K (c, iRecv s))
      (wpE_waitDma2_eq Variants.none (c : Thread nD τ) none Set.univ) (Set.mem_univ _) () (O := left (owD c) 0) (W := W) (R := 0) (m := 0) (T := ∅)
      (by rw [Nat.zero_add, expect_recv, hN])) $$ [Hc HO Hat]
  · isplitr; · iexact HI
    isplitl [Hc]; · rw [hN]; iexact Hc
    isplitl [HO]; · iexact HO
    isplitr; · iapply (mayWait c _ _ (by rw [rank_recv]; exact above_D c (by decide) 0)); iexact Hlev
    iexact Hat
  iintro ⟨HO, Hat, -, Hpay⟩
  ihave Hp := (Entails.of_eq (rest_recv m ρ c s)) $$ Hpay
  imod (Rounds.cell_close EX (sched m ρ) (Set.mem_univ (K (c, iRecv s))) (fun h => h) (R := 0 + 1) (duties_later m ρ (recvCell c s))) $$ [Hat] with Hz
  · isplitr; · iexact HI
    iexact Hat
  unfold recvPay recvPts
  icases Hp with ⟨%f, %hf, Hv⟩
  rw [hset]
  iapply (wp_load_rect Variants.none (c : Thread nD τ) none Set.univ (m := vM) (r := slotR s) (subset_rfl)) $$ Hv; iintro Hv
  rw [show ((vM : Memref sig .tc .vmem S7x256x1024 .bf16).access (slotR s)).read (Elt F) f = partOf m ρ (peer c s) c from hf]
  iapply Hk
  isplitl [Hv]; · iexists f; iexact Hv
  isplitl [Hz]; · iexact Hz
  iexists _; iexact HO

/-- Waiting for send slot `j` gives it back. -/
theorem step_sent (j : Fin 7) {q : DmaSem sig} (hq : q = sendS j)
    {src dst : Memref sig .tc .vmem S256x1024 .bf16} {w₁ : src.view.WordExact} {w₂ : dst.view.WordExact} (hN : dst.view.dmaCredit = N)
    {kk : PUnit → Prog (TpuEff nD τ sig (Elt F) Λ₀ .tc) α} :
    records (F := F) m ρ K ⊢ iprop(levAts L lv -∗ cred (tallyAt (sendCell c j) () N) -∗ debt c (left (owD c) 0) -∗ atPos EX (sendCell c j) 0 ∅ 0
      -∗ (iprop((∃ f, sendPts c j f) ∗ semVal (sendCell c j) 0 ∗ debt c (left (owD c) 0)) -∗ run c (kk ⟨⟩) Q)
      -∗ run c (.op (.waitDma2 q src dst w₁ w₂) kk) Q) := by
  subst hq
  iintro #Hrec #Hlev Hc Hd Hat Hk
  ihave Hr := (record_at m ρ K c (iSend j) _ (csem_send j)) $$ Hrec
  icases Hr with ⟨#HI, #HR⟩
  unfold debt
  icases Hd with ⟨%W, HO⟩
  iapply (Rounds.wp_wait_rest_token Variants.none EX (sched m ρ) (c : Thread nD τ) none (κ := K (c, iSend j))
      (wpE_waitDma2_eq Variants.none (c : Thread nD τ) none Set.univ) (Set.mem_univ _) () (O := left (owD c) 0) (W := W) (R := 0) (m := 0) (T := ∅)
      (by rw [Nat.zero_add, expect_send, hN])) $$ [Hc HO Hat]
  · isplitr; · iexact HI
    isplitl [Hc]; · rw [hN]; iexact Hc
    isplitl [HO]; · iexact HO
    isplitr; · iapply (mayWait c _ _ (by rw [rank_send]; exact above_D c (by decide) 0)); iexact Hlev
    iexact Hat
  iintro ⟨HO, Hat, -, Hpay⟩
  ihave Hp := (Entails.of_eq (rest_send m ρ c j)) $$ Hpay
  imod (Rounds.cell_close EX (sched m ρ) (Set.mem_univ (K (c, iSend j))) (fun h => h) (R := 0 + 1) (duties_later m ρ (sendCell c j))) $$ [Hat] with Hz
  · isplitr; · iexact HI
    iexact Hat
  iapply Hk
  isplitl [Hp]; · unfold sendPay; iexact Hp
  isplitl [Hz]; · iexact Hz
  iexists _; iexact HO

/-- Raising the closing semaphore of the device `k + 1` places on. -/
theorem step_done (k : Fin 7) (i i' : ℕ) {n : Dev nD} (hn : n = peer c k) (hi : i = k.val) (hi' : i' = k.val + 1)
    {kk : PUnit → Prog (TpuEff nD τ sig (Elt F) Λ₀ .tc) α} :
    records (F := F) m ρ K ⊢ iprop(dutyTok EX (doneCell (peer c k)) 0 k -∗ debt c (left (owD c) i)
      -∗ (debt c (left (owD c) i') -∗ run c (kk ⟨⟩) Q) -∗ run c (.op (.semSignal (n : Thread nD τ) doneS (1#32 : BitVec 32).toNat) kk) Q) := by
  subst hn; subst hi; subst hi'
  iintro #Hrec Ht Hd Hk
  ihave Hr := (record_at m ρ K (peer c k) 14 _ csem_done) $$ Hrec
  icases Hr with ⟨#HI, #HR⟩
  unfold debt
  icases Hd with ⟨%W, HO⟩
  iapply (Rounds.wp_signal Variants.none EX (sched m ρ) (c : Thread nD τ) none (dst := (peer c k : Thread nD τ)) (κ := K (peer c k, 14))
      (d := k) (by rw [duties_done]; exact Finset.mem_univ _) ((amount_done m ρ (peer c k) k).trans (by decide)) () (O₀ := left (owD c) k.val) (left (owD c) (k.val + 1))
      (by rw [left_peel]; rfl) (W := W)) $$ [HO Ht]
  · isplitr; · iexact HI
    isplitl [HO]; · iexact HO
    isplitl [Ht]; · iexact Ht
    isplitr; · rw [payload_done]; iempintro
    iexact HR
  iintro HO
  iapply Hk
  iexists W; iexact HO

/-- Waiting on the own closing semaphore, owing nothing, closes its cell. -/
theorem step_doneWait {kk : PUnit → Prog (TpuEff nD τ sig (Elt F) Λ₀ .tc) α} :
    records (F := F) m ρ K ⊢ iprop(cred (tallyAt (doneCell c) () 7) -∗ debt c (left (owD c) 7) -∗ atPos EX (doneCell c) 0 ∅ 0
      -∗ (iprop(semVal (doneCell c) 0 ∗ debt c 0) -∗ run c (kk ⟨⟩) Q)
      -∗ run c (.op (.semWait doneS (7#32 : BitVec 32).toNat) kk) Q) := by
  rw [left_seven]
  iintro #Hrec Hc Hd Hat Hk
  ihave Hr := (record_at m ρ K c 14 _ csem_done) $$ Hrec
  icases Hr with ⟨#HI, #HR⟩
  unfold debt
  icases Hd with ⟨%W, HO⟩
  iapply (Rounds.wp_wait_rest_token Variants.none EX (sched m ρ) (c : Thread nD τ) none (κ := K (c, 14))
      (wpE_semWait_eq Variants.none (c : Thread nD τ) none Set.univ) (Set.mem_univ _) () (O := 0) (W := W) (R := 0) (m := 0) (T := ∅)
      (by rw [expect_done]; decide)) $$ [Hc HO Hat]
  · isplitr; · iexact HI
    isplitl [Hc]; · iexact Hc
    isplitl [HO]; · iexact HO
    isplitr; · rw [MayWait_zero]; iempintro
    iexact Hat
  iintro ⟨HO, Hat, -, -⟩
  imod (Rounds.cell_close EX (sched m ρ) (Set.mem_univ (K (c, 14))) (fun h => h) (R := 0 + 1) (duties_later m ρ (doneCell c))) $$ [Hat] with Hz
  · isplitr; · iexact HI
    iexact Hat
  iapply Hk
  isplitl [Hz]; · iexact Hz
  iexists _; iexact HO

end

end Cert.Moe

end
-- ==== Proof.Slots.lean ====
/-
The send and receive buffers cut into their seven slots, and put back together.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Every element of a seven-slot buffer lies in one of the slots. -/
theorem slots_cover : (Finset.univ : Finset (Fin 7)).biUnion (fun j => (slotR j).toLoadRect.set) = Finset.univ := by
  ext i
  simp only [Finset.mem_biUnion, Finset.mem_univ, true_and, iff_true]
  refine ⟨⟨(i 0).val, (i 0).isLt⟩, ?_⟩
  show i ∈ (slotR ⟨(i 0).val, (i 0).isLt⟩).set
  rw [Rect.mem_set_unit]
  intro a
  fin_cases a
  · exact ⟨le_refl _, Nat.lt_succ_self _⟩
  · exact ⟨Nat.zero_le _, lt_of_lt_of_eq (i 1).isLt (Nat.zero_add _).symm⟩
  · exact ⟨Nat.zero_le _, lt_of_lt_of_eq (i 2).isLt (Nat.zero_add _).symm⟩

theorem send_slot_set (j : Fin 7) : (sendM j).view.set = (slotR j).toLoadRect.set := (send_set j).trans (View.set_slice_whole _ _)
theorem recv_slot_set (j : Fin 7) : (recvM j).view.set = (slotR j).toLoadRect.set := (recv_set j).trans (View.set_slice_whole _ _)

theorem slots_pairwise (j : Fin 7) (_ : j ∈ (Finset.univ : Finset (Fin 7))) (j' : Fin 7) (_ : j' ∈ (Finset.univ : Finset (Fin 7))) (h : j ≠ j') :
    Disjoint (slotR j).toLoadRect.set (slotR j').toLoadRect.set := slots_disjoint h

/-- A buffer of seven slots at one contents is its slots at it. -/
theorem split7 (ℓ : Loc nD τ sig) (T : Fin 7 → Finset (Idx ℓ)) (hd : ∀ j ∈ Finset.univ, ∀ j' ∈ Finset.univ, j ≠ j' → Disjoint (T j) (T j'))
    (hc : Finset.univ.biUnion T = Finset.univ) (f : Buf (Elt F) ℓ) :
    (ℓ ↦{fullShare} f : sProp (MM F)) ⊢ bigSep Finset.univ fun j : Fin 7 => iprop(∃ f : Buf (Elt F) ℓ, ℓ ↦[T j]{fullShare} f) := by
  rw [← hc, pointsTo_biUnion Finset.univ T hd]
  refine bigSep_mono fun j _ => ?_
  show (_ : sProp (MM F)) ⊢ _
  iintro H; iexists f; iexact H

/-- Seven slots at any contents are the buffer at some contents. -/
theorem join7 (ℓ : Loc nD τ sig) (T : Fin 7 → Finset (Idx ℓ)) (hd : ∀ j ∈ Finset.univ, ∀ j' ∈ Finset.univ, j ≠ j' → Disjoint (T j) (T j'))
    (hc : Finset.univ.biUnion T = Finset.univ) :
    (bigSep Finset.univ fun j : Fin 7 => iprop(∃ f : Buf (Elt F) ℓ, ℓ ↦[T j]{fullShare} f)) ⊢ (iprop(∃ f, ℓ ↦{fullShare} f) : sProp (MM F)) := by
  iintro H
  ihave H' := (BI.bigSep_exists_pi Finset.univ (fun (j : Fin 7) (f : Buf (Elt F) ℓ) => (ℓ ↦[T j]{fullShare} f : sProp (MM F)))) $$ H
  icases H' with ⟨%fs, H⟩
  ihave H' := (pointsTo_biUnion_join Finset.univ T fs (fs 0) hd) $$ H
  icases H' with ⟨%g, -, H⟩
  iexists g
  rw [← hc]
  iexact H

variable (c : Dev nD)

theorem sendPts_eq (j : Fin 7) (f : Buf (Elt F) ((c : Thread nD τ).loc cc0_scratch1)) :
    sendPts (F := F) c j f = (((c : Thread nD τ).loc cc0_scratch1) ↦[(slotR j).toLoadRect.set]{fullShare} f) := by
  unfold sendPts; rw [send_slot_set]
theorem recvPts_eq (j : Fin 7) (f : Buf (Elt F) ((c : Thread nD τ).loc cc0_scratch2)) :
    recvPts (F := F) c j f = (((c : Thread nD τ).loc cc0_scratch2) ↦[(slotR j).toLoadRect.set]{fullShare} f) := by
  unfold recvPts; rw [recv_slot_set]

theorem send_split (f : Buf (Elt F) ((c : Thread nD τ).loc cc0_scratch1)) :
    (((c : Thread nD τ).loc cc0_scratch1) ↦{fullShare} f : sProp (MM F)) ⊢ bigSep Finset.univ fun j : Fin 7 => iprop(∃ f, sendPts c j f) := by
  simp only [sendPts_eq]
  exact split7 ((c : Thread nD τ).loc cc0_scratch1) (fun j => (slotR j).toLoadRect.set) slots_pairwise slots_cover f

theorem send_join : (bigSep Finset.univ fun j : Fin 7 => iprop(∃ f, sendPts c j f))
    ⊢ (iprop(∃ f, ((c : Thread nD τ).loc cc0_scratch1) ↦{fullShare} f) : sProp (MM F)) := by
  simp only [sendPts_eq]
  exact join7 ((c : Thread nD τ).loc cc0_scratch1) (fun j => (slotR j).toLoadRect.set) slots_pairwise slots_cover

theorem recv_split (f : Buf (Elt F) ((c : Thread nD τ).loc cc0_scratch2)) :
    (((c : Thread nD τ).loc cc0_scratch2) ↦{fullShare} f : sProp (MM F)) ⊢ bigSep Finset.univ fun j : Fin 7 => iprop(∃ f, recvPts c j f) := by
  simp only [recvPts_eq]
  exact split7 ((c : Thread nD τ).loc cc0_scratch2) (fun j => (slotR j).toLoadRect.set) slots_pairwise slots_cover f

theorem recv_join : (bigSep Finset.univ fun j : Fin 7 => iprop(∃ f, recvPts c j f))
    ⊢ (iprop(∃ f, ((c : Thread nD τ).loc cc0_scratch2) ↦{fullShare} f) : sProp (MM F)) := by
  simp only [recvPts_eq]
  exact join7 ((c : Thread nD τ).loc cc0_scratch2) (fun j => (slotR j).toLoadRect.set) slots_pairwise slots_cover

end Cert.Moe

end
-- ==== Proof.Body.lean ====
/-
The kernel's body on one device, run from what the launch hands it to its result.
-/
module

public import proofs.«01_k».proof.Proof.Slots

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)
variable (K : Dev nD × Fin 16 → ℕ) (c : Dev nD)

/-! ## What a device holds -/

/-- A whole buffer of the device. -/
abbrev pts (b : Ref sig .tc) (f : Buf (Elt F) ((c : Thread nD τ).loc b)) : sProp (MM F) := ((c : Thread nD τ).loc b) ↦{fullShare} f

/-- The duty tokens the device pays with, by offset. -/
def payToks : sProp (MM F) :=
  iprop((bigSep Finset.univ fun k : Fin 7 => dutyTok EX (barCell (peer c k)) 0 k)
    ∗ (bigSep Finset.univ fun k : Fin 7 => dutyTok EX (doneCell (peer c k)) 0 k)
    ∗ (bigSep Finset.univ fun k : Fin 7 => dutyTok EX (sendCell c k) 0 0)
    ∗ (bigSep Finset.univ fun k : Fin 7 => dutyTok EX (recvCell (peer c k) k.rev) 0 0))
/-- Its positions on its own cells. -/
def places : sProp (MM F) :=
  iprop((bigSep Finset.univ fun k : Fin 7 => atPos EX (sendCell c k) 0 ∅ 0)
    ∗ (bigSep Finset.univ fun k : Fin 7 => atPos EX (recvCell c k) 0 ∅ 0)
    ∗ atPos EX (doneCell c) 0 ∅ 0 ∗ atPos EX (barCell c) 0 ∅ 0)
/-- The credit the others owe its cells. -/
def credits : sProp (MM F) :=
  iprop(cred (tallyAt (barCell c) () 7) ∗ cred (tallyAt (doneCell c) () 7) ∗ bigSep Finset.univ fun k : Fin 7 => cred (tallyAt (recvCell c k) () N))
/-- Its sixteen counters back at zero. -/
def zeros : sProp (MM F) :=
  iprop((bigSep Finset.univ fun k : Fin 7 => semVal (sendCell c k) 0) ∗ (bigSep Finset.univ fun k : Fin 7 => semVal (recvCell c k) 0)
    ∗ semVal (doneCell c) 0 ∗ semVal (barCell c) 0)

/-! ## Whole-buffer accesses -/

theorem off2 : (![0, 0] : Fin 2 → ℕ) = fun _ => 0 := funext fun a => by fin_cases a <;> rfl

/-- Reading a whole buffer reads its contents; overwriting a whole buffer leaves what was written. -/
theorem read_x (f : (cc0_stg0_0 : Ref sig .tc).ty.Contents (Elt F)) :
    (xM : Memref sig .tc .vmem S2048x512 .bf16).view.readAt (Elt F) (Rect.unit (s := S2048x512) ![0, 0] S2048x512.size inb_S2048x512_S2048x512_0_0).toLoadRect f = f :=
  Memref.readAt_unit_zero (Elt F) cc0_stg0_0 off2 _ f
theorem read_w (f : (cc0_stg1_0 : Ref sig .tc).ty.Contents (Elt F)) :
    (wM : Memref sig .tc .vmem S512x32 .bf16).view.readAt (Elt F) (Rect.unit (s := S512x32) ![0, 0] S512x32.size inb_S512x32_S512x32_0_0).toLoadRect f = f :=
  Memref.readAt_unit_zero (Elt F) cc0_stg1_0 off2 _ f
theorem read_r (f : (cc0_stg2_0 : Ref sig .tc).ty.Contents (Elt F)) :
    (rM : Memref sig .tc .vmem S2048x1 .i32).view.readAt (Elt F) (Rect.unit (s := S2048x1) ![0, 0] S2048x1.size inb_S2048x1_S2048x1_0_0).toLoadRect f = f :=
  Memref.readAt_unit_zero (Elt F) cc0_stg2_0 off2 _ f
theorem read_h (f : (cc0_stg4_0 : Ref sig .tc).ty.Contents (Elt F)) :
    (hM : Memref sig .tc .vmem S512x1024 .bf16).view.readAt (Elt F) (Rect.unit (s := S512x1024) ![0, 0] S512x1024.size inb_S512x1024_S512x1024_0_0).toLoadRect f = f :=
  Memref.readAt_unit_zero (Elt F) cc0_stg4_0 off2 _ f
theorem write_p (f w : (cc0_scratch0 : Ref sig .tc).ty.Contents (Elt F)) :
    ((pM : Memref sig .tc .vmem S2048x1 .f32).access (Rect.unit (s := S2048x1) ![0, 0] S2048x1.size inb_S2048x1_S2048x1_0_0)).write (Elt F) f w Finset.univ = w :=
  Memref.write_access_unit_zero_univ (Elt F) cc0_scratch0 off2 _ f w
theorem write_o (f w : (cc0_stg5_0 : Ref sig .tc).ty.Contents (Elt F)) :
    ((oM : Memref sig .tc .vmem S256x1024 .f32).access (Rect.unit (s := S256x1024) ![0, 0] S256x1024.size inb_S256x1024_S256x1024_0_0)).write (Elt F) f w Finset.univ = w :=
  Memref.write_access_unit_zero_univ (Elt F) cc0_stg5_0 off2 _ f w

variable {α : Type} {Q : α → sProp (MM F)}

/-- The router: the probabilities from the tokens, the router's weights and the route indices. -/
theorem step_router {g : Buf (Elt F) ((c : Thread nD τ).loc cc0_scratch0)} {l₁ l₂ l₃ l₄ s₁ s₂} {kk : PUnit → Prog (TpuEff nD τ sig (Elt F) Λ₀ .tc) α} :
    iprop(pts c cc0_stg0_0 (xAt m ρ c) ∗ pts c cc0_stg1_0 (wAt m ρ c) ∗ pts c cc0_stg2_0 (rAt m ρ c) ∗ pts c cc0_scratch0 g)
      ⊢ iprop((iprop((pts c cc0_stg0_0 (xAt m ρ c) ∗ pts c cc0_scratch0 (pAt m ρ c) ∗ pts c cc0_stg2_0 (rAt m ρ c)) ∗ pts c cc0_stg1_0 (wAt m ρ c)) -∗ run c (kk ⟨⟩) Q)
        -∗ run c (.op (.load xM (Rect.unit (s := S2048x512) ![0, 0] S2048x512.size inb_S2048x512_S2048x512_0_0).toLoadRect l₁) fun x =>
          .op (.load wM (Rect.unit (s := S512x32) ![0, 0] S512x32.size inb_S512x32_S512x32_0_0).toLoadRect l₂) fun w =>
          .op (.load rM (Rect.unit (s := S2048x1) ![0, 0] S2048x1.size inb_S2048x1_S2048x1_0_0).toLoadRect l₃) fun r =>
          .op (.load pM (Rect.unit (s := S2048x1) ![0, 0] S2048x1.size inb_S2048x1_S2048x1_0_0).toLoadRect l₄) fun _ =>
          .op (.store pM (Rect.unit (s := S2048x1) ![0, 0] S2048x1.size inb_S2048x1_S2048x1_0_0) (k0_pay1 x w r) Finset.univ s₁ s₂) kk) Q) := by
  iintro ⟨Hx, Hw, Hr, Hp⟩ Hk
  iapply (wp_load Variants.none (c : Thread nD τ) none Set.univ (m := xM) (Finset.subset_univ _)) $$ Hx; iintro Hx
  rw [read_x]
  iapply (wp_load Variants.none (c : Thread nD τ) none Set.univ (m := wM) (Finset.subset_univ _)) $$ Hw; iintro Hw
  rw [read_w]
  iapply (wp_load Variants.none (c : Thread nD τ) none Set.univ (m := rM) (Finset.subset_univ _)) $$ Hr; iintro Hr
  rw [read_r]
  iapply (wp_load Variants.none (c : Thread nD τ) none Set.univ (m := pM) (Finset.subset_univ _)) $$ Hp; iintro Hp
  iapply (wp_store Variants.none (c : Thread nD τ) none Set.univ (m := pM) (r := Rect.unit (s := S2048x1) ![0, 0] S2048x1.size inb_S2048x1_S2048x1_0_0) (Mk := Finset.univ) (Finset.subset_univ _)) $$ Hp; iintro Hp
  rw [write_p]
  iapply Hk
  isplitr [Hw]
  · isplitl [Hx]; · iexact Hx
    isplitl [Hp]; · iexact Hp
    iexact Hr
  iexact Hw

/-- The device's four experts. -/
theorem step_experts {l₀ l₁ l₂ l₃} {kk : Vec F S1x512x1024 .bf16 → Vec F S1x512x1024 .bf16 → Vec F S1x512x1024 .bf16 → Vec F S1x512x1024 .bf16 → Prog (TpuEff nD τ sig (Elt F) Λ₀ .tc) α} :
    pts c cc0_stg3_0 (eAt m ρ c) ⊢ iprop((pts c cc0_stg3_0 (eAt m ρ c) -∗ run c (kk (expert m ρ c 0) (expert m ρ c 1) (expert m ρ c 2) (expert m ρ c 3)) Q)
        -∗ run c (.op (.load eM (Rect.unit (s := S4x512x1024) ![0, 0, 0] S1x512x1024.size inb_S4x512x1024_S1x512x1024_0_0_0).toLoadRect l₀) fun e₀ =>
          .op (.load eM (Rect.unit (s := S4x512x1024) ![1, 0, 0] S1x512x1024.size inb_S4x512x1024_S1x512x1024_1_0_0).toLoadRect l₁) fun e₁ =>
          .op (.load eM (Rect.unit (s := S4x512x1024) ![2, 0, 0] S1x512x1024.size inb_S4x512x1024_S1x512x1024_2_0_0).toLoadRect l₂) fun e₂ =>
          .op (.load eM (Rect.unit (s := S4x512x1024) ![3, 0, 0] S1x512x1024.size inb_S4x512x1024_S1x512x1024_3_0_0).toLoadRect l₃) fun e₃ => kk e₀ e₁ e₂ e₃) Q) := by
  iintro He Hk
  iapply (wp_load Variants.none (c : Thread nD τ) none Set.univ (m := eM) (Finset.subset_univ _)) $$ He; iintro He
  iapply (wp_load Variants.none (c : Thread nD τ) none Set.univ (m := eM) (Finset.subset_univ _)) $$ He; iintro He
  iapply (wp_load Variants.none (c : Thread nD τ) none Set.univ (m := eM) (Finset.subset_univ _)) $$ He; iintro He
  iapply (wp_load Variants.none (c : Thread nD τ) none Set.univ (m := eM) (Finset.subset_univ _)) $$ He; iintro He
  iapply Hk
  iexact He

/-- The device's own rows once more, and the shared expert. -/
theorem step_shared {o : Fin 2 → ℕ} (h : o = ![256 * c.val, 0]) {b : ∀ a, o a + S256x512.size a ≤ S2048x512.size a} {l₁ l₂}
    {kk : Vec F S256x512 .bf16 → Vec F S512x1024 .bf16 → Prog (TpuEff nD τ sig (Elt F) Λ₀ .tc) α} :
    iprop(pts c cc0_stg0_0 (xAt m ρ c) ∗ pts c cc0_stg4_0 (hAt m ρ c))
      ⊢ iprop((iprop(pts c cc0_stg0_0 (xAt m ρ c) ∗ pts c cc0_stg4_0 (hAt m ρ c)) -∗ run c (kk (xRows m ρ c c) (hAt m ρ c)) Q)
        -∗ run c (.op (.load xM (Rect.unit (s := S2048x512) o S256x512.size b).toLoadRect l₁) fun x =>
          .op (.load hM (Rect.unit (s := S512x1024) ![0, 0] S512x1024.size inb_S512x1024_S512x1024_0_0).toLoadRect l₂) fun w => kk x w) Q) := by
  subst h
  iintro ⟨Hx, Hh⟩ Hk
  iapply (wp_load Variants.none (c : Thread nD τ) none Set.univ (m := xM) (Finset.subset_univ _)) $$ Hx; iintro Hx
  iapply (wp_load Variants.none (c : Thread nD τ) none Set.univ (m := hM) (Finset.subset_univ _)) $$ Hh; iintro Hh
  rw [read_h]
  iapply Hk
  isplitl [Hx]; · iexact Hx
  iexact Hh

/-- Storing the result. -/
theorem step_result {g : Buf (Elt F) ((c : Thread nD τ).loc cc0_stg5_0)} {w : Vec F S256x1024 .f32} (hw : w = outAt m ρ c) {l₁ s₁ s₂}
    {kk : PUnit → Prog (TpuEff nD τ sig (Elt F) Λ₀ .tc) α} :
    pts c cc0_stg5_0 g ⊢ iprop((pts c cc0_stg5_0 (outAt m ρ c) -∗ run c (kk ⟨⟩) Q)
        -∗ run c (.op (.load oM (Rect.unit (s := S256x1024) ![0, 0] S256x1024.size inb_S256x1024_S256x1024_0_0).toLoadRect l₁) fun _ =>
          .op (.store oM (Rect.unit (s := S256x1024) ![0, 0] S256x1024.size inb_S256x1024_S256x1024_0_0) w Finset.univ s₁ s₂) kk) Q) := by
  subst hw
  iintro Ho Hk
  iapply (wp_load Variants.none (c : Thread nD τ) none Set.univ (m := oM) (Finset.subset_univ _)) $$ Ho; iintro Ho
  iapply (wp_store Variants.none (c : Thread nD τ) none Set.univ (m := oM) (r := Rect.unit (s := S256x1024) ![0, 0] S256x1024.size inb_S256x1024_S256x1024_0_0) (Mk := Finset.univ) (Finset.subset_univ _)) $$ Ho; iintro Ho
  rw [write_o]
  iapply Hk
  iexact Ho

/-- The end of the run. -/
theorem step_end (a : α) : Q a ⊢ run c (.ret a : Prog (TpuEff nD τ sig (Elt F) Λ₀ .tc) α) Q := by
  unfold run
  iintro H
  rw [wp_ret]; imodintro
  iexact H

/-! ## The body -/

/-- What the body starts from: the cells' records, what it owes, its tokens, places and credit, the staged arguments, and the other buffers at anything. -/
def bodyPre : sProp (MM F) :=
  iprop(records m ρ K ∗ levAts L lv ∗ payToks c ∗ places c ∗ credits c ∗ debt c (O₀ c)
    ∗ (pts c cc0_stg0_0 (xAt m ρ c) ∗ pts c cc0_stg1_0 (wAt m ρ c) ∗ pts c cc0_stg2_0 (rAt m ρ c) ∗ pts c cc0_stg3_0 (eAt m ρ c) ∗ pts c cc0_stg4_0 (hAt m ρ c) ∗ ∃ f, pts c cc0_stg5_0 f)
    ∗ (∃ f, pts c cc0_scratch0 f) ∗ (∃ f, pts c cc0_scratch1 f) ∗ (∃ f, pts c cc0_scratch2 f))

/-- What it ends in: nothing owed, the counters at zero, the arguments as they were, the result computed. -/
def bodyPost : sProp (MM F) :=
  iprop(zeros c ∗ debt c 0
    ∗ (pts c cc0_stg0_0 (xAt m ρ c) ∗ pts c cc0_stg1_0 (wAt m ρ c) ∗ pts c cc0_stg2_0 (rAt m ρ c) ∗ pts c cc0_stg3_0 (eAt m ρ c) ∗ pts c cc0_stg4_0 (hAt m ρ c) ∗ pts c cc0_stg5_0 (outAt m ρ c))
    ∗ (∃ f, pts c cc0_scratch0 f) ∗ (∃ f, pts c cc0_scratch1 f) ∗ (∃ f, pts c cc0_scratch2 f))

set_option maxHeartbeats 4000000 in
set_option maxRecDepth 8000 in
/-- The body takes `bodyPre` to `bodyPost`, a step lemma per effect in program order. -/
theorem sound_body (Kt : PUnit → sProp (MM F)) :
    iprop(bodyPre m ρ K c ∗ (bodyPost m ρ c -∗ Kt ⟨⟩))
      ⊢ run c (cc0_body (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5) Kt := by
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel
  simp only [semSignalWord, semWaitWord, Prog.lift, Prog.bind_op, Prog.bind_ret, Prog.pure_eq_ret, wp_deviceId]
  unfold bodyPre payToks places credits
  simp only [sep7]
  iintro ⟨⟨#Hrec, #Hlev, ⟨⟨Hb0, Hb1, Hb2, Hb3, Hb4, Hb5, Hb6⟩, ⟨Hd0, Hd1, Hd2, Hd3, Hd4, Hd5, Hd6⟩, ⟨Hs0, Hs1, Hs2, Hs3, Hs4, Hs5, Hs6⟩, Ht0, Ht1, Ht2, Ht3, Ht4, Ht5, Ht6⟩,
    ⟨⟨Pa0, Pa1, Pa2, Pa3, Pa4, Pa5, Pa6⟩, ⟨Pv0, Pv1, Pv2, Pv3, Pv4, Pv5, Pv6⟩, Pd, Pb⟩, ⟨Cb, Cd, Cv0, Cv1, Cv2, Cv3, Cv4, Cv5, Cv6⟩, HO,
    ⟨Hx, Hw, Hr, He, Hh, ⟨%f5, Ho⟩⟩, ⟨%g0, Hp⟩, ⟨%g1, HS⟩, ⟨%g2, HV⟩⟩, Hk⟩
  ihave HS := ((send_split c g1).trans (Entails.of_eq (sep7 _))) $$ HS
  ihave HV := ((recv_split c g2).trans (Entails.of_eq (sep7 _))) $$ HV
  icases HS with ⟨S0, S1, S2, S3, S4, S5, S6⟩
  icases HV with ⟨V0, V1, V2, V3, V4, V5, V6⟩
  unfold O₀
  iapply (step_bar m ρ K c 0 0 1 (Fin.ext (k0_dev1_eq c)) rfl rfl) $$ Hrec Hb0 V0 HO; iintro HO
  iapply (step_bar m ρ K c 1 1 2 (Fin.ext (k0_dev2_eq c)) rfl rfl) $$ Hrec Hb1 V1 HO; iintro HO
  iapply (step_bar m ρ K c 2 2 3 (Fin.ext (k0_dev3_eq c)) rfl rfl) $$ Hrec Hb2 V2 HO; iintro HO
  iapply (step_bar m ρ K c 3 3 4 (Fin.ext (k0_dev4_eq c)) rfl rfl) $$ Hrec Hb3 V3 HO; iintro HO
  iapply (step_bar m ρ K c 4 4 5 (Fin.ext (k0_dev5_eq c)) rfl rfl) $$ Hrec Hb4 V4 HO; iintro HO
  iapply (step_bar m ρ K c 5 5 6 (Fin.ext (k0_dev6_eq c)) rfl rfl) $$ Hrec Hb5 V5 HO; iintro HO
  iapply (step_bar m ρ K c 6 6 7 (Fin.ext (k0_dev7_eq c)) rfl rfl) $$ Hrec Hb6 V6 HO; iintro HO
  rw [left_seven, add_zero]
  iapply (step_barWait m ρ K c) $$ Hrec Hlev Cb HO Pb; iintro ⟨HB, Zb, HO⟩
  ihave HB := (Entails.of_eq (sep7 _)) $$ HB
  icases HB with ⟨B0, B1, B2, B3, B4, B5, B6⟩
  iapply (step_router m ρ c) $$ [Hx Hw Hr Hp]
  · isplitl [Hx]; · iexact Hx
    isplitl [Hw]; · iexact Hw
    isplitl [Hr]; · iexact Hr
    iexact Hp
  iintro ⟨HR, Hw⟩
  iapply (step_experts m ρ c) $$ He; iintro He
  iapply (step_rows m ρ c (peer c 0) (k0_off1_eq c 0) (k0_off2_eq c 0)) $$ HR; iintro HR
  iapply (step_fill c 0 (w' := partOf m ρ c (peer c 0)) rfl rfl) $$ S0; iintro S0
  iapply (step_copy m ρ K c 0 6 0 1 (by decide) (Fin.ext (k0_dev8_eq c)) rfl rfl rfl rfl rfl rfl) $$ Hrec S0 B6 Hs0 Ht0 HO; iintro ⟨Cs0, HO⟩
  iapply (step_rows m ρ c (peer c 1) (k0_off1_eq c 1) (k0_off2_eq c 1)) $$ HR; iintro HR
  iapply (step_fill c 1 (w' := partOf m ρ c (peer c 1)) rfl rfl) $$ S1; iintro S1
  iapply (step_copy m ρ K c 1 5 1 2 (by decide) (Fin.ext (k0_dev9_eq c)) rfl rfl rfl rfl rfl rfl) $$ Hrec S1 B5 Hs1 Ht1 HO; iintro ⟨Cs1, HO⟩
  iapply (step_rows m ρ c (peer c 2) (k0_off1_eq c 2) (k0_off2_eq c 2)) $$ HR; iintro HR
  iapply (step_fill c 2 (w' := partOf m ρ c (peer c 2)) rfl rfl) $$ S2; iintro S2
  iapply (step_copy m ρ K c 2 4 2 3 (by decide) (Fin.ext (k0_dev10_eq c)) rfl rfl rfl rfl rfl rfl) $$ Hrec S2 B4 Hs2 Ht2 HO; iintro ⟨Cs2, HO⟩
  iapply (step_rows m ρ c (peer c 3) (k0_off1_eq c 3) (k0_off2_eq c 3)) $$ HR; iintro HR
  iapply (step_fill c 3 (w' := partOf m ρ c (peer c 3)) rfl rfl) $$ S3; iintro S3
  iapply (step_copy m ρ K c 3 3 3 4 (by decide) (Fin.ext (k0_dev11_eq c)) rfl rfl rfl rfl rfl rfl) $$ Hrec S3 B3 Hs3 Ht3 HO; iintro ⟨Cs3, HO⟩
  iapply (step_rows m ρ c (peer c 4) (k0_off1_eq c 4) (k0_off2_eq c 4)) $$ HR; iintro HR
  iapply (step_fill c 4 (w' := partOf m ρ c (peer c 4)) rfl rfl) $$ S4; iintro S4
  iapply (step_copy m ρ K c 4 2 4 5 (by decide) (Fin.ext (k0_dev12_eq c)) rfl rfl rfl rfl rfl rfl) $$ Hrec S4 B2 Hs4 Ht4 HO; iintro ⟨Cs4, HO⟩
  iapply (step_rows m ρ c (peer c 5) (k0_off1_eq c 5) (k0_off2_eq c 5)) $$ HR; iintro HR
  iapply (step_fill c 5 (w' := partOf m ρ c (peer c 5)) rfl rfl) $$ S5; iintro S5
  iapply (step_copy m ρ K c 5 1 5 6 (by decide) (Fin.ext (k0_dev13_eq c)) rfl rfl rfl rfl rfl rfl) $$ Hrec S5 B1 Hs5 Ht5 HO; iintro ⟨Cs5, HO⟩
  iapply (step_rows m ρ c (peer c 6) (k0_off1_eq c 6) (k0_off2_eq c 6)) $$ HR; iintro HR
  iapply (step_fill c 6 (w' := partOf m ρ c (peer c 6)) rfl rfl) $$ S6; iintro S6
  iapply (step_copy m ρ K c 6 0 6 7 (by decide) (Fin.ext (k0_dev14_eq c)) rfl rfl rfl rfl rfl rfl) $$ Hrec S6 B0 Hs6 Ht6 HO; iintro ⟨Cs6, HO⟩
  rw [left_seven, add_zero]
  iapply (step_rows m ρ c c (k0_off3_eq c) (k0_off4_eq c)) $$ HR; iintro ⟨Hx, Hp, Hr⟩
  iapply (step_shared m ρ c (k0_off3_eq c)) $$ [Hx Hh]
  · isplitl [Hx]; · iexact Hx
    iexact Hh
  iintro ⟨Hx, Hh⟩
  iapply (step_recv m ρ K c 6 (src := sendM 6) (dst := recvM 6) (w₁ := send_words 6) (w₂ := recv_words 6) rfl rfl rfl) $$ Hrec Hlev Cv6 HO Pv6; iintro ⟨V6, Zv6, HO⟩
  iapply (step_recv m ρ K c 5 (src := sendM 5) (dst := recvM 5) (w₁ := send_words 5) (w₂ := recv_words 5) rfl rfl rfl) $$ Hrec Hlev Cv5 HO Pv5; iintro ⟨V5, Zv5, HO⟩
  iapply (step_recv m ρ K c 4 (src := sendM 4) (dst := recvM 4) (w₁ := send_words 4) (w₂ := recv_words 4) rfl rfl rfl) $$ Hrec Hlev Cv4 HO Pv4; iintro ⟨V4, Zv4, HO⟩
  iapply (step_recv m ρ K c 3 (src := sendM 3) (dst := recvM 3) (w₁ := send_words 3) (w₂ := recv_words 3) rfl rfl rfl) $$ Hrec Hlev Cv3 HO Pv3; iintro ⟨V3, Zv3, HO⟩
  iapply (step_recv m ρ K c 2 (src := sendM 2) (dst := recvM 2) (w₁ := send_words 2) (w₂ := recv_words 2) rfl rfl rfl) $$ Hrec Hlev Cv2 HO Pv2; iintro ⟨V2, Zv2, HO⟩
  iapply (step_recv m ρ K c 1 (src := sendM 1) (dst := recvM 1) (w₁ := send_words 1) (w₂ := recv_words 1) rfl rfl rfl) $$ Hrec Hlev Cv1 HO Pv1; iintro ⟨V1, Zv1, HO⟩
  iapply (step_recv m ρ K c 0 (src := sendM 0) (dst := recvM 0) (w₁ := send_words 0) (w₂ := recv_words 0) rfl rfl rfl) $$ Hrec Hlev Cv0 HO Pv0; iintro ⟨V0, Zv0, HO⟩
  iapply (step_result m ρ c rfl) $$ Ho; iintro Ho
  iapply (step_sent m ρ K c 0 (src := recvM 6) (dst := sendM 0) (w₁ := recv_words 6) (w₂ := send_words 0) rfl rfl) $$ Hrec Hlev Cs0 HO Pa0; iintro ⟨S0, Zs0, HO⟩
  iapply (step_sent m ρ K c 1 (src := recvM 5) (dst := sendM 1) (w₁ := recv_words 5) (w₂ := send_words 1) rfl rfl) $$ Hrec Hlev Cs1 HO Pa1; iintro ⟨S1, Zs1, HO⟩
  iapply (step_sent m ρ K c 2 (src := recvM 4) (dst := sendM 2) (w₁ := recv_words 4) (w₂ := send_words 2) rfl rfl) $$ Hrec Hlev Cs2 HO Pa2; iintro ⟨S2, Zs2, HO⟩
  iapply (step_sent m ρ K c 3 (src := recvM 3) (dst := sendM 3) (w₁ := recv_words 3) (w₂ := send_words 3) rfl rfl) $$ Hrec Hlev Cs3 HO Pa3; iintro ⟨S3, Zs3, HO⟩
  iapply (step_sent m ρ K c 4 (src := recvM 2) (dst := sendM 4) (w₁ := recv_words 2) (w₂ := send_words 4) rfl rfl) $$ Hrec Hlev Cs4 HO Pa4; iintro ⟨S4, Zs4, HO⟩
  iapply (step_sent m ρ K c 5 (src := recvM 1) (dst := sendM 5) (w₁ := recv_words 1) (w₂ := send_words 5) rfl rfl) $$ Hrec Hlev Cs5 HO Pa5; iintro ⟨S5, Zs5, HO⟩
  iapply (step_sent m ρ K c 6 (src := recvM 0) (dst := sendM 6) (w₁ := recv_words 0) (w₂ := send_words 6) rfl rfl) $$ Hrec Hlev Cs6 HO Pa6; iintro ⟨S6, Zs6, HO⟩
  iapply (step_done m ρ K c 0 0 1 (Fin.ext (k0_dev15_eq c)) rfl rfl) $$ Hrec Hd0 HO; iintro HO
  iapply (step_done m ρ K c 1 1 2 (Fin.ext (k0_dev16_eq c)) rfl rfl) $$ Hrec Hd1 HO; iintro HO
  iapply (step_done m ρ K c 2 2 3 (Fin.ext (k0_dev17_eq c)) rfl rfl) $$ Hrec Hd2 HO; iintro HO
  iapply (step_done m ρ K c 3 3 4 (Fin.ext (k0_dev18_eq c)) rfl rfl) $$ Hrec Hd3 HO; iintro HO
  iapply (step_done m ρ K c 4 4 5 (Fin.ext (k0_dev19_eq c)) rfl rfl) $$ Hrec Hd4 HO; iintro HO
  iapply (step_done m ρ K c 5 5 6 (Fin.ext (k0_dev20_eq c)) rfl rfl) $$ Hrec Hd5 HO; iintro HO
  iapply (step_done m ρ K c 6 6 7 (Fin.ext (k0_dev21_eq c)) rfl rfl) $$ Hrec Hd6 HO; iintro HO
  iapply (step_doneWait m ρ K c) $$ Hrec Cd HO Pd; iintro ⟨Zd, HO⟩
  iapply (step_end c PUnit.unit)
  iapply Hk
  ihave HS := ((Entails.of_eq (sep7 fun j : Fin 7 => iprop(∃ f, sendPts c j f)).symm).trans (send_join c)) $$ [S0 S1 S2 S3 S4 S5 S6]
  · isplitl [S0]; · iexact S0
    isplitl [S1]; · iexact S1
    isplitl [S2]; · iexact S2
    isplitl [S3]; · iexact S3
    isplitl [S4]; · iexact S4
    isplitl [S5] <;> iassumption
  ihave HV := ((Entails.of_eq (sep7 fun j : Fin 7 => iprop(∃ f, recvPts c j f)).symm).trans (recv_join c)) $$ [V0 V1 V2 V3 V4 V5 V6]
  · isplitl [V0]; · iexact V0
    isplitl [V1]; · iexact V1
    isplitl [V2]; · iexact V2
    isplitl [V3]; · iexact V3
    isplitl [V4]; · iexact V4
    isplitl [V5] <;> iassumption
  unfold bodyPost zeros
  simp only [sep7]
  isplitl [Zs0 Zs1 Zs2 Zs3 Zs4 Zs5 Zs6 Zv0 Zv1 Zv2 Zv3 Zv4 Zv5 Zv6 Zd Zb]
  · isplitl [Zs0 Zs1 Zs2 Zs3 Zs4 Zs5 Zs6]
    · isplitl [Zs0]; · iexact Zs0
      isplitl [Zs1]; · iexact Zs1
      isplitl [Zs2]; · iexact Zs2
      isplitl [Zs3]; · iexact Zs3
      isplitl [Zs4]; · iexact Zs4
      isplitl [Zs5] <;> iassumption
    isplitl [Zv0 Zv1 Zv2 Zv3 Zv4 Zv5 Zv6]
    · isplitl [Zv0]; · iexact Zv0
      isplitl [Zv1]; · iexact Zv1
      isplitl [Zv2]; · iexact Zv2
      isplitl [Zv3]; · iexact Zv3
      isplitl [Zv4]; · iexact Zv4
      isplitl [Zv5] <;> iassumption
    isplitl [Zd] <;> iassumption
  isplitl [HO]; · iexact HO
  isplitl [Hx Hw Hr He Hh Ho]
  · isplitl [Hx]; · iexact Hx
    isplitl [Hw]; · iexact Hw
    isplitl [Hr]; · iexact Hr
    isplitl [He]; · iexact He
    isplitl [Hh] <;> iassumption
  isplitl [Hp]; · iexists _; iexact Hp
  isplitl [HS] <;> iassumption

end Cert.Moe

end
-- ==== Proof.Launch.lean ====
/-
What the launch deals the eight devices: their cells' invariants and positions, the duty tokens carried around the
ring to the devices that pay with them, and the credit the others owe.
-/
module

public import proofs.«01_k».proof.Proof.Body

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## Cells and tokens -/

theorem csem_injective : Function.Injective csem := by
  have h : ∀ i j : Fin 16, csem i = csem j → i = j := by decide
  exact fun i j => h i j

theorem cell_injective : Function.Injective (cell : Dev nD × Fin 16 → GSem nD τ sig) := by
  rintro ⟨c, i⟩ ⟨c', i'⟩ h
  have h1 : c = c' := congrArg (fun g : GSem nD τ sig => g.1.1) h
  have h2 : csem i = csem i' := congrArg Prod.snd h
  rw [h1, csem_injective h2]

/-- All the exchange's cells. -/
def allCells : Finset (GSem nD τ sig) := Finset.univ.map ⟨cell, cell_injective⟩

/-- A device's own cells' duties: its barrier's and its closing semaphore's seven, each send and receive cell's one. -/
def dutyOf : Fin 4 × Fin 7 → Fin 16 × Fin 7
  | (0, k) => (15, k) | (1, k) => (14, k) | (2, k) => (iSend k, 0) | (3, k) => (iRecv k, 0)
theorem dutyOf_injective : Function.Injective dutyOf := by
  have h : ∀ x y : Fin 4 × Fin 7, dutyOf x = dutyOf y → x = y := by decide +kernel
  exact fun x y => h x y

def tokOf (x : Dev nD × (Fin 4 × Fin 7)) : GSem nD τ sig × ℕ × Fin 7 := (cell (x.1, (dutyOf x.2).1), 0, (dutyOf x.2).2)
theorem tokOf_injective : Function.Injective tokOf := by
  rintro ⟨c, x⟩ ⟨c', x'⟩ h
  have h1 := cell_injective (congrArg Prod.fst h)
  have h2 : (dutyOf x).2 = (dutyOf x').2 := congrArg (fun y : GSem nD τ sig × ℕ × Fin 7 => y.2.2) h
  have h3 : c = c' := congrArg Prod.fst h1
  have h4 : x = x' := dutyOf_injective (Prod.ext (congrArg Prod.snd h1) h2)
  rw [h3, h4]
def allToks : Finset (GSem nD τ sig × ℕ × Fin 7) := Finset.univ.map ⟨tokOf, tokOf_injective⟩

/-- The launch element: the pipeline's and the exchange's. -/
def u₀ : UU := (initOf (Pipeline.cells cfgs cellOf_inj) (Pipeline.launchToks cfgs cellOf_inj), initOf allCells allToks)

theorem sep4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- The tokens of device `c`'s own cells' duties. -/
def ownToks (c : Dev nD) : sProp (MM F) :=
  iprop((bigSep Finset.univ fun k : Fin 7 => dutyTok EX (barCell c) 0 k)
    ∗ (bigSep Finset.univ fun k : Fin 7 => dutyTok EX (doneCell c) 0 k)
    ∗ (bigSep Finset.univ fun k : Fin 7 => dutyTok EX (sendCell c k) 0 0)
    ∗ (bigSep Finset.univ fun k : Fin 7 => dutyTok EX (recvCell c k) 0 0))

/-- What the launch element deals device `c`. -/
def dealt (c : Dev nD) : sProp (MM F) :=
  iprop((bigSep Finset.univ fun i : Fin 16 => roundState EX (sched m ρ) (cell (c, i)) 0)
    ∗ (bigSep Finset.univ fun i : Fin 16 => iprop(atPos EX (cell (c, i)) 0 ∅ 0 ∗ reached EX (cell (c, i)) 0)) ∗ ownToks c)

theorem ownToks_eq (c : Dev nD) :
    (bigSep Finset.univ fun x : Fin 4 × Fin 7 => (dutyTok EX (tokOf (c, x)).1 (tokOf (c, x)).2.1 (tokOf (c, x)).2.2 : sProp (MM F))) = ownToks c := by
  rw [bigSep_univ_prod, sep4]
  unfold ownToks tokOf dutyOf cell
  simp only [csem_send, csem_recv, csem_bar, csem_done]

theorem fund : BI.own (EX (initOf allCells allToks)) ⊢ (|==> bigSep Finset.univ (dealt m ρ) : sProp (MM F)) := by
  have hX (Φ : GSem nD τ sig → sProp (MM F)) : bigSep allCells Φ = bigSep Finset.univ fun c : Dev nD => bigSep Finset.univ fun i : Fin 16 => Φ (cell (c, i)) := by
    unfold allCells; rw [bigSep_map, bigSep_univ_prod]; rfl
  have hT : bigSep allToks (fun x => (dutyTok EX x.1 x.2.1 x.2.2 : sProp (MM F))) = bigSep Finset.univ fun c : Dev nD => ownToks c := by
    unfold allToks; rw [bigSep_map, bigSep_univ_prod]
    exact bigSep_congr fun c _ => ownToks_eq c
  iintro HX
  imod (Rounds.fund EX (sched m ρ) allCells allToks) $$ HX with ⟨Hst, Hr, Hat, Htok⟩
  imodintro
  ihave Hst' := (Entails.of_eq (hX fun g => roundState EX (sched m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The semaphores -/

/-- The kernel's own fifteen semaphores. -/
def osem (i : Fin 15) : SemLoc sig := csem i.castSucc

theorem ownSemFacts : Pipeline.OwnSemFacts cfg0.spec osem := by decide

/-- Sixteen things, one by one. -/
theorem sep16 {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- Things numbered like the cells: send cells, receive cells, the closing one, the barrier. -/
theorem sep_cells {M : Type} [URA M] (Φ : Fin 16 → sProp M) :
    bigSep Finset.univ Φ = iprop((bigSep Finset.univ fun k : Fin 7 => Φ (iSend k)) ∗ (bigSep Finset.univ fun k : Fin 7 => Φ (iRecv k)) ∗ Φ 14 ∗ Φ 15) := by
  rw [sep16, sep7, sep7]
  have e : ∀ P Q R : sProp M, iprop((P ∗ Q) ∗ R) = iprop(P ∗ Q ∗ R) := fun P Q R => equiv_iff.mp ⟨BI.sep_assoc, BI.sep_assoc'⟩
  simp only [e]
  rfl

theorem ownSems0_eq (c : Dev nD) :
    (Pipeline.ownSems0 (Ix := Unit) (Name := ℕ) (U := UU) (Lvl := ℕ) (Val := Elt F) (τ := τ) osem c : sProp (MM F))
      = bigSep Finset.univ fun i : Fin 15 => semVal (cell (c, i.castSucc)) 0 := rfl

/-- The entry barrier's semaphore is the one the launch leaves outside. -/
theorem unscopedSems0_eq (c : Dev nD) : (unscopedSems0 c : sProp (MM F)) = semVal (barCell c) 0 := by
  unfold unscopedSems0; rw [bigSep_eq_bigSepL_of_eq [SemLoc.reg barS] (by decide) (by decide)]; rfl

theorem sep15 {M : Type} [URA M] (Φ : Fin 15 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- Fifteen of sixteen, and the last. -/
theorem sep_last {M : Type} [URA M] (Φ : Fin 16 → sProp M) :
    bigSep Finset.univ Φ = iprop((bigSep Finset.univ fun i : Fin 15 => Φ i.castSucc) ∗ Φ 15) := by
  rw [sep16, sep15]
  have e : ∀ P Q R : sProp M, iprop((P ∗ Q) ∗ R) = iprop(P ∗ Q ∗ R) := fun P Q R => equiv_iff.mp ⟨BI.sep_assoc, BI.sep_assoc'⟩
  simp only [e]
  rfl

theorem sems_in (c : Dev nD) :
    iprop(Pipeline.ownSems0 (Ix := Unit) (Name := ℕ) (U := UU) (Lvl := ℕ) (Val := Elt F) (τ := τ) osem c ∗ unscopedSems0 c)
      = (bigSep Finset.univ fun i : Fin 16 => semVal (cell (c, i)) 0 : sProp (MM F)) := by
  rw [ownSems0_eq, unscopedSems0_eq, sep_last]; rfl

/-- The cells' counters by kind. -/
theorem zeros_eq (c : Dev nD) : (bigSep Finset.univ fun i : Fin 16 => semVal (cell (c, i)) 0 : sProp (MM F)) = zeros c := by
  rw [sep_cells]; unfold zeros cell
  simp only [csem_send, csem_recv, csem_bar, csem_done]

theorem places_eq (c : Dev nD) : (bigSep Finset.univ fun i : Fin 16 => atPos EX (cell (c, i)) 0 ∅ 0 : sProp (MM F)) = places c := by
  rw [sep_cells]; unfold places cell
  simp only [csem_send, csem_recv, csem_bar, csem_done]

/-! ## Allocating the cells, and dealing the tokens around the ring -/

theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun i : Fin 16 => iprop(∃ κ : ℕ, cellInv EX (sched m ρ) κ (cell (c, i))))
          ∗ (bigSep Finset.univ fun i : Fin 16 => iprop(atPos EX (cell (c, i)) 0 ∅ 0 ∗ reached EX (cell (c, i)) 0)) ∗ ownToks c) := by
  unfold dealt
  iintro ⟨Hos, Hus, Hst, Hat, Htok⟩
  ihave Hv := (Entails.of_eq (sems_in (F := F) c)) $$ [Hos Hus]
  · isplitl [Hos] <;> iassumption
  imod (show iprop((bigSep Finset.univ fun i : Fin 16 => semVal (cell (c, i)) 0) ∗ bigSep Finset.univ fun i : Fin 16 => roundState EX (sched m ρ) (cell (c, i)) 0)
      ⊢ (|={Set.univ}=> bigSep Finset.univ fun i : Fin 16 => iprop(∃ κ : ℕ, cellInv EX (sched m ρ) κ (cell (c, i))) : sProp (MM F)) from by
        rw [← bigSep_sep']
        exact (bigSep_mono fun i _ => (Rounds.body_intro EX (sched m ρ) (cell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- A device and a step, to the device that many steps on and the same step; -/
def onward : Dev nD × Fin 7 ≃ Dev nD × Fin 7 where
  toFun x := (peer x.1 x.2, x.2)
  invFun x := (peer x.1 x.2.rev, x.2)
  left_inv x := by have h := peer_rev x.1 x.2; exact Prod.ext h rfl
  right_inv x := by have h := peer_rev' x.1 x.2; exact Prod.ext h rfl

/-- and to that device and the step that leads back. -/
def across : Dev nD × Fin 7 ≃ Dev nD × Fin 7 where
  toFun x := (peer x.1 x.2, x.2.rev)
  invFun x := (peer x.1 x.2, x.2.rev)
  left_inv x := by have h := peer_rev x.1 x.2; exact Prod.ext h (Fin.rev_rev _)
  right_inv x := by have h := peer_rev x.1 x.2; exact Prod.ext h (Fin.rev_rev _)

theorem deal (e : Dev nD × Fin 7 ≃ Dev nD × Fin 7) (Φ : Dev nD → Fin 7 → sProp (MM F)) :
    (bigSep Finset.univ fun c : Dev nD => bigSep Finset.univ fun k : Fin 7 => Φ c k)
      = bigSep Finset.univ fun c : Dev nD => bigSep Finset.univ fun k : Fin 7 => Φ (e (c, k)).1 (e (c, k)).2 := by
  rw [← bigSep_univ_prod (fun x : Dev nD × Fin 7 => Φ x.1 x.2), bigSep_univ_equiv e, bigSep_univ_prod]

/-- Each device's own cells' tokens, dealt to the devices that pay with them. -/
theorem toks_around : (bigSep Finset.univ fun c : Dev nD => (ownToks c : sProp (MM F))) = bigSep Finset.univ fun c : Dev nD => payToks c := by
  unfold ownToks payToks
  rw [bigSep_sep', bigSep_sep', bigSep_sep', bigSep_sep', bigSep_sep', bigSep_sep',
    deal onward (fun c k => (dutyTok EX (barCell c) 0 k : sProp (MM F))), deal onward (fun c k => (dutyTok EX (doneCell c) 0 k : sProp (MM F))),
    deal across (fun c k => (dutyTok EX (recvCell c k) 0 0 : sProp (MM F)))]
  rfl

/-- What device `c` has of the exchange at the start: all cells' records, its own positions, the tokens it pays with. -/
def ghost (c : Dev nD) : sProp (MM F) := iprop(∃ K, records m ρ K ∗ places c ∗ payToks c)

theorem regroup :
    (bigSep Finset.univ fun c : Dev nD => iprop((bigSep Finset.univ fun i : Fin 16 => iprop(∃ κ : ℕ, cellInv EX (sched m ρ) κ (cell (c, i))))
          ∗ (bigSep Finset.univ fun i : Fin 16 => iprop(atPos EX (cell (c, i)) 0 ∅ 0 ∗ reached EX (cell (c, i)) 0)) ∗ ownToks c) : sProp (MM F))
      ⊢ bigSep Finset.univ (ghost m ρ) := by
  rw [bigSep_sep', bigSep_sep', ← bigSep_univ_prod (fun x : Dev nD × Fin 16 => iprop(∃ κ : ℕ, cellInv EX (sched m ρ) κ (cell x))),
    bigSep_congr (s := Finset.univ) (fun (c : Dev nD) _ => bigSep_sep' Finset.univ (fun i : Fin 16 => (atPos EX (cell (c, i)) 0 ∅ 0 : sProp (MM F))) (fun i => reached EX (cell (c, i)) 0)),
    bigSep_sep', ← bigSep_univ_prod (fun x : Dev nD × Fin 16 => (reached EX (cell x) 0 : sProp (MM F))),
    bigSep_congr (s := Finset.univ) (fun (c : Dev nD) _ => places_eq c), toks_around]
  iintro ⟨HI, ⟨Hat, #HR⟩, Htok⟩
  ihave HK := (BI.bigSep_exists_pi Finset.univ (fun (x : Dev nD × Fin 16) (κ : ℕ) => (cellInv EX (sched m ρ) κ (cell x) : sProp (MM F)))) $$ HI
  icases HK with ⟨%K, #HI⟩
  ihave Hboth := (Entails.of_eq (bigSep_sep' Finset.univ (fun c : Dev nD => (places c : sProp (MM F))) payToks).symm) $$ [Hat Htok]
  · isplitl [Hat] <;> iassumption
  ihave #Hrec : records m ρ K $$ []
  · unfold records; isplitl; · iexact HI
    iexact HR
  iapply (show iprop(records m ρ K ∗ bigSep Finset.univ fun c : Dev nD => iprop(places c ∗ payToks c)) ⊢ (bigSep Finset.univ (ghost m ρ) : sProp (MM F)) from
    (BIClass.sep_mono (BI.bigSep_of_persistent Finset.univ (records m ρ K)) (Entails.refl _)).trans (by
      rw [← bigSep_sep']
      refine bigSep_mono fun c _ => ?_
      show (_ : sProp (MM F)) ⊢ _
      unfold ghost
      iintro H
      iexists K
      iexact H))
  isplitr
  · iexact Hrec
  · iexact Hboth

theorem glob : (bigSep Finset.univ fun c => iprop(Pipeline.ownSems0 (Ix := Unit) (Name := ℕ) (U := UU) (Lvl := ℕ) (Val := Elt F) (τ := τ) osem c ∗ unscopedSems0 c ∗ dealt m ρ c) : sProp (MM F))
    ⊢ |={Set.univ}=> bigSep Finset.univ (ghost m ρ) :=
  ((bigSep_mono fun c _ => core_alloc m ρ c).trans (bigSep_fupd _ _)).trans (BI.fupd_mono (regroup m ρ))

/-! ## The credit -/

theorem cell_eq_iff {a b : Dev nD} {s t : SemLoc sig} : ((((a : Dev nD) : Thread nD τ), s) : GSem nD τ sig) = (((b : Dev nD) : Thread nD τ), t) ↔ a = b ∧ s = t :=
  ⟨fun h => ⟨congrArg (fun g : GSem nD τ sig => g.1.1) h, congrArg Prod.snd h⟩, fun h => by rw [h.1, h.2]⟩

/-- What all devices together owe a semaphore of device `c` when each owes `a` to one semaphore of every other device: `a` for each
    step whose semaphore it is. -/
theorem all_owed (σ : Fin 7 → SemLoc sig) (a : ℕ) (c : Dev nD) (s : SemLoc sig) :
    (∑ d : Dev nD, left (fun k => (tallyAt (((peer d k : Dev nD) : Thread nD τ), σ k) () a : CellTallies nD τ sig Unit)) 0 (((c : Dev nD) : Thread nD τ), s) ())
      = ∑ k : Fin 7, if s = σ k then a else 0 := by
  have h1 : ∀ d : Dev nD, left (fun k => (tallyAt (((peer d k : Dev nD) : Thread nD τ), σ k) () a : CellTallies nD τ sig Unit)) 0 (((c : Dev nD) : Thread nD τ), s) ()
      = ∑ k : Fin 7, if c = turn k d then (if s = σ k then a else 0) else 0 := by
    intro d
    unfold left
    rw [Finset.filter_true_of_mem (fun k _ => Nat.zero_le _), Finset.sum_apply, Finsupp.finset_sum_apply]
    refine Finset.sum_congr rfl fun k _ => ?_
    rw [tallyAt_apply]
    simp only [cell_eq_iff, and_true, ite_and]
    rfl
  rw [Finset.sum_congr rfl fun d _ => h1 d, Finset.sum_comm]
  refine Finset.sum_congr rfl fun k _ => ?_
  rw [Equiv.sum_comp (turn k) (fun d => if c = d then (if s = σ k then a else 0) else 0), Finset.sum_ite_eq, if_pos (Finset.mem_univ _)]

/-- What all devices together owe a semaphore of device `c`. -/
theorem all_O₀ (c : Dev nD) (s : SemLoc sig) :
    (∑ d : Dev nD, O₀ d (((c : Dev nD) : Thread nD τ), s) ())
      = (∑ k : Fin 7, if s = .reg doneS then 1 else 0) + (∑ k : Fin 7, if s = .dma (recvS k.rev) then N else 0) + ∑ k : Fin 7, if s = .reg barS then 1 else 0 := by
  unfold O₀
  simp only [Pi.add_apply, Finsupp.add_apply, Finset.sum_add_distrib]
  exact congrArg₂ (· + ·) (congrArg₂ (· + ·) (all_owed (fun _ => .reg doneS) 1 c s) (all_owed (fun k => .dma (recvS k.rev)) N c s)) (all_owed (fun _ => .reg barS) 1 c s)

theorem credit_of (c : Dev nD) (s : SemLoc sig) (n : ℕ)
    (h : (∑ k : Fin 7, if s = .reg doneS then 1 else 0) + (∑ k : Fin 7, if s = .dma (recvS k.rev) then N else 0) + (∑ k : Fin 7, if s = .reg barS then 1 else 0) = n) :
    tallyOn (((c : Dev nD) : Thread nD τ), s) (launchCredit (Pipeline.owing O₀) 0 (((c : Dev nD) : Thread nD τ), s))
      = (tallyAt (((c : Dev nD) : Thread nD τ), s) () n : CellTallies nD τ sig Unit) := by
  unfold tallyAt; refine congrArg _ (Finsupp.ext fun u => ?_); cases u
  rw [Pipeline.launchCredit_owing, Finsupp.single_eq_same, all_O₀, h]

theorem creds (c : Dev nD) : (Pipeline.launchCred O₀ c : sProp (MM F)) ⊢ credits c := by
  have hb := credit_of c (.reg barS) 7 (by
    rw [Finset.sum_congr rfl fun k _ => if_neg (by decide), Finset.sum_congr (g := fun _ => 0) rfl fun k _ => if_neg (by revert k; decide), Finset.sum_congr rfl fun k _ => if_pos rfl]
    rfl)
  have hd := credit_of c (.reg doneS) 7 (by
    rw [Finset.sum_congr (g := fun _ => 1) rfl fun k _ => if_pos rfl, Finset.sum_congr (g := fun _ => 0) rfl fun k _ => if_neg (by revert k; decide), Finset.sum_congr (g := fun _ => 0) rfl fun k _ => if_neg (by decide)]
    rfl)
  have hr : ∀ j : Fin 7, _ := fun j => credit_of c (.dma (recvS j)) N (by
    rw [Finset.sum_congr (g := fun _ => 0) rfl fun k _ => if_neg (by revert j; decide),
      Finset.sum_congr (g := fun k => if j.rev = k then N else 0) rfl fun k _ => if_congr (by revert j k; decide) rfl rfl, Finset.sum_ite_eq, if_pos (Finset.mem_univ _),
      Finset.sum_congr (g := fun _ => 0) rfl fun k _ => if_neg (by revert j; decide)]
    simp only [Finset.sum_const_zero, Nat.zero_add, Nat.add_zero])
  unfold Pipeline.launchCred credits
  refine (bigSep_subset (Finset.subset_univ (Finset.univ.map ⟨csem, csem_injective⟩))).trans ?_
  rw [bigSep_map, sep_cells]
  simp only [Function.Embedding.coeFn_mk, csem_send, csem_recv, csem_bar, csem_done, hb, hd, hr]
  show (_ : sProp (MM F)) ⊢ _
  iintro ⟨-, Hr, Hd, Hb⟩
  isplitl [Hb]; · iexact Hb
  isplitl [Hd]; · iexact Hd
  iexact Hr

end Cert.Moe

end
-- ==== Proof.Run.lean ====
/-
The run of the whole program: the body's obligation discharged on every device, the launch put together, and what every
array holds when the program ends.
-/
module

public import proofs.«01_k».proof.Proof.Launch
public import proofs.«01_k».proof.Proof.Gen.KernelIdeal.Points
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ) (ρ : Dev nD → PrngReg)

/-- The three scratch arrays, holding anything. -/
def scratch (c : Dev nD) : sProp (MM F) := iprop((∃ f, pts c cc0_scratch0 f) ∗ (∃ f, pts c cc0_scratch1 f) ∗ (∃ f, pts c cc0_scratch2 f))

/-- What a device has at the start beside its buffers. -/
def start (c : Dev nD) : sProp (MM F) := iprop(ghost m ρ c ∗ credits c ∗ levAts L lv)

/-- The proof data: the arrays as launched, what the body leaves in the staging buffers, and what it owes. -/
def dats (_ : Fin 1) (c : Dev nD) : Dat τ (Elt F) Unit ℕ UU ℕ cfg0 c where
  A w := (mem₀ m ρ).mem ((cfg0.win w).arr.view.loc (c : Thread nD τ))
  after w _ := match w with
    | ⟨0, _⟩ => xAt m ρ c
    | ⟨1, _⟩ => wAt m ρ c
    | ⟨2, _⟩ => rAt m ρ c
    | ⟨3, _⟩ => eAt m ρ c
    | ⟨4, _⟩ => hAt m ρ c
    | ⟨5, _⟩ => outAt m ρ c
  Φ t := match t with
    | ⟨0, _⟩ => iprop(start m ρ c ∗ scratch c)
    | ⟨_ + 1, _⟩ => iprop(zeros c ∗ scratch c)
  q _ := fullShare
  owed t := match t with
    | ⟨0, _⟩ => O₀ c
    | ⟨_ + 1, _⟩ => 0

/-- The grid's one point. -/
def pt : Fin cfg0.N := (0 : Fin 1)
theorem only_point (t : Fin cfg0.N) : t = pt := fin_N0 t

theorem owns_whole (c : Dev nD) (b : Ref sig .tc) (X : b.ty.Contents (Elt F)) :
    (owns (Ix := Unit) (Name := ℕ) (U := UU) (Lvl := ℕ) (c : Thread nD τ) (Memref.whole b) fullShare X : sProp (MM F))
      = iprop(∃ f : Buf (Elt F) (((c : Dev nD) : Thread nD τ).loc b), ⌜f = X⌝ ∗ pts c b f) := by
  unfold owns; simp only [Memref.view_whole, View.read_whole, View.set_whole]

/-- A staging buffer holding `X`. -/
abbrev stg (c : Dev nD) (b : Ref sig .tc) (X : b.ty.Contents (Elt F)) : sProp (MM F) :=
  iprop(∃ f : Buf (Elt F) (((c : Dev nD) : Thread nD τ).loc b), ⌜f = X⌝ ∗ pts c b f)

/-- What the one grid point starts from, and ends in, as the library puts it. -/
def pointPre (c : Dev nD) : sProp (MM F) :=
  iprop((start m ρ c ∗ scratch c) ∗ (dats m ρ 0 c).owesAt () pt.castSucc
    ∗ (∃ d, stg c cc0_stg0_0 ((dats m ρ 0 c).before (0 : Fin 6) pt d))
    ∗ (∃ d, stg c cc0_stg1_0 ((dats m ρ 0 c).before (1 : Fin 6) pt d))
    ∗ (∃ d, stg c cc0_stg2_0 ((dats m ρ 0 c).before (2 : Fin 6) pt d))
    ∗ (∃ d, stg c cc0_stg3_0 ((dats m ρ 0 c).before (3 : Fin 6) pt d))
    ∗ (∃ d, stg c cc0_stg4_0 ((dats m ρ 0 c).before (4 : Fin 6) pt d))
    ∗ (∃ d, stg c cc0_stg5_0 ((dats m ρ 0 c).before (5 : Fin 6) pt d)))
def pointPost (c : Dev nD) : sProp (MM F) :=
  iprop((zeros c ∗ scratch c) ∗ (dats m ρ 0 c).owesAt () pt.succ
    ∗ stg c cc0_stg0_0 (xAt m ρ c) ∗ stg c cc0_stg1_0 (wAt m ρ c) ∗ stg c cc0_stg2_0 (rAt m ρ c) ∗ stg c cc0_stg3_0 (eAt m ρ c)
    ∗ stg c cc0_stg4_0 (hAt m ρ c) ∗ stg c cc0_stg5_0 (outAt m ρ c))

theorem before_0 (c : Dev nD) (d) : (dats m ρ 0 c).before (0 : Fin 6) pt d = xAt m ρ c := ((dats m ρ 0 c).before_fetched (0 : Fin 6) pt (fetch0_0 pt) d).trans rfl
theorem before_1 (c : Dev nD) (d) : (dats m ρ 0 c).before (1 : Fin 6) pt d = wAt m ρ c := ((dats m ρ 0 c).before_fetched (1 : Fin 6) pt (fetch0_1 pt) d).trans rfl
theorem before_2 (c : Dev nD) (d) : (dats m ρ 0 c).before (2 : Fin 6) pt d = rAt m ρ c := ((dats m ρ 0 c).before_fetched (2 : Fin 6) pt (fetch0_2 pt) d).trans rfl
theorem before_3 (c : Dev nD) (d) : (dats m ρ 0 c).before (3 : Fin 6) pt d = eAt m ρ c := ((dats m ρ 0 c).before_fetched (3 : Fin 6) pt (fetch0_3 pt) d).trans rfl
theorem before_4 (c : Dev nD) (d) : (dats m ρ 0 c).before (4 : Fin 6) pt d = hAt m ρ c := ((dats m ρ 0 c).before_fetched (4 : Fin 6) pt (fetch0_4 pt) d).trans rfl

theorem point_in (c : Dev nD) : pointPre m ρ c ⊢ (∃ K, bodyPre m ρ K c : sProp (MM F)) := by
  unfold pointPre start ghost bodyPre debt
  simp only [before_0, before_1, before_2, before_3, before_4]
  unfold Dat.owesAt Pipeline.owesWithin scratch
  iintro ⟨⟨⟨⟨%K, Hrec, Hpl, Htok⟩, Hcr, Hlev⟩, Hscr⟩, ⟨%W, -, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩⟩
  subst e0 e1 e2 e3 e4
  iexists K
  isplitl [Hrec]; · iexact Hrec
  isplitl [Hlev]; · iexact Hlev
  isplitl [Htok]; · iexact Htok
  isplitl [Hpl]; · iexact Hpl
  isplitl [Hcr]; · iexact Hcr
  isplitl [HO]; · iexists W; iexact HO
  isplitl [H0 H1 H2 H3 H4 H5]
  · isplitl [H0]; · iexact H0
    isplitl [H1]; · iexact H1
    isplitl [H2]; · iexact H2
    isplitl [H3]; · iexact H3
    isplitl [H4]; · iexact H4
    iexists f5; iexact H5
  iexact Hscr

theorem point_out (c : Dev nD) : bodyPost m ρ c ⊢ (pointPost m ρ c : sProp (MM F)) := by
  unfold pointPost bodyPost debt Dat.owesAt Pipeline.owesWithin scratch
  iintro ⟨Hz, ⟨%W, HO⟩, ⟨H0, H1, H2, H3, H4, H5⟩, Hscr⟩
  isplitl [Hz Hscr]
  · isplitl [Hz]; · iexact Hz
    iexact Hscr
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option maxRecDepth 4000 in
/-- The body's obligation on device `c`. -/
theorem body_obligation (c : Dev nD) : BodyObligation (dats (F := F) m ρ 0 c) (defs₀ (F := F)) Variants.none () Set.univ := fun t => by
  rw [only_point t]
  rw [show ∀ Φ : Fin cfg0.W → sProp (MM F), bigSep Finset.univ Φ = _ from bigSep_W0, show ∀ Φ : Fin cfg0.W → sProp (MM F), bigSep Finset.univ Φ = _ from bigSep_W0]
  simp only [owns_whole]
  show pointPre m ρ c ⊢ run c (cc0_body (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_stg5_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5) (fun _ => pointPost m ρ c)
  iintro H
  ihave H' := (point_in m ρ c) $$ H
  icases H' with ⟨%K, H'⟩
  iapply (sound_body m ρ K c fun _ => pointPost m ρ c)
  isplitl [H']; · iexact H'
  iintro H
  iapply (point_out m ρ c)
  iexact H

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ (|={Set.univ}=> iprop(start m ρ c ∗ emp) : sProp (MM F)) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scopedRest0_eq]
  iintro ⟨Hs, -, Hr⟩
  isplitl [Hs]; · iexact Hs
  unfold scratch; iexact Hr

theorem zeros_out (c : Dev nD) : (zeros c : sProp (MM F)) ⊢ iprop(Pipeline.ownSems0 (Ix := Unit) (Name := ℕ) (U := UU) (Lvl := ℕ) (Val := Elt F) (τ := τ) osem c ∗ unscopedSems0 c) :=
  Entails.of_eq ((zeros_eq c).symm.trans (sems_in c).symm)

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ scratch c) from rfl, scopedRest0_eq]
  iintro ⟨Hz, Hr⟩
  ihave H := (zeros_out (F := F) c) $$ Hz
  icases H with ⟨Ho, Hu⟩
  isplitl [Hu]; · iexact Hu
  isplitl [Ho]; · iexact Ho
  unfold scratch; iexact Hr

theorem above_owed (c : Dev nD) (t : Fin (cfg0.N + 1)) (n : ℕ) (hn : n = 0) : Above n ((dats (F := F) m ρ 0 c).owed t) := by
  subst hn
  rcases t with ⟨_ | _, ht⟩
  · exact above_O₀ c
  · exact above_zero 0

theorem waits (c : Dev nD) : (levAts L lv : sProp (MM F)) ⊢ Pipeline.cellsWaits cfgs (dats m ρ) () 0 c :=
  Pipeline.cellsWaits_intro cfgs (dats m ρ) () 0 c fun w s t =>
    mayWait c _ _ (above_owed m ρ c t _ (by fin_cases w <;> fin_cases s <;> decide))

/-! ## The run -/

/-- What the arrays hold at the end. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with counters at zero every fair execution of the eight devices' program ends, with each array as
    computed and every counter at zero again. -/
theorem run_main : θ_run defs (onTc (τ := τ) (main (F := F))) (mem₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := ghost m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they started. -/
theorem finalA_in (c : Dev nD) (w : Fin 6) (h : (cfg0.win w).isOut = false) :
    finalA m ρ c w = (mem₀ m ρ).mem ((cfg0.win w).arr.view.loc (c : Thread nD τ)) := (dats (F := F) m ρ 0 c).arrAt_in w h _

end Cert.Moe

end
-- ==== Proof.Frames.lean ====
/-
The three frame claims: each program ends, with its arguments as they were and every counter at zero.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Moe

open Idealize.ShloMosaic Idealize.SL.Sem
open Cert.KernelIdeal Cert.KernelIdeal.Gen
open Idealize.ShloMosaic.TcCoe

/-- Over any float values the kernel ends, its arguments as they were and every counter at zero. -/
theorem args_kept {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run (defs (F := F)) _ _).mono
    (fun _ h => ⟨fun c =>
      ⟨(h.1 c (0 : Fin 6)).trans (finalA_in m ρ c 0 rfl), (h.1 c (1 : Fin 6)).trans (finalA_in m ρ c 1 rfl), (h.1 c (2 : Fin 6)).trans (finalA_in m ρ c 2 rfl),
        (h.1 c (3 : Fin 6)).trans (finalA_in m ρ c 3 rfl), (h.1 c (4 : Fin 6)).trans (finalA_in m ρ c 4 rfl)⟩, h.2⟩)
    (run_main m ρ)

/-- The frame of the kernel over the extended reals. -/
theorem frame_ideal : Cert.quiescent_KernelIdeal (hKernelIdeal := Cert.KernelIdeal.Gen.facts) := fun m ρ _ => args_kept (F := Ideal) m ρ

/-- The two printings of the kernel run the same bodies, -/
theorem bodies_eq {F : FTy → Type} [FloatOps F] : Cert.Kernel.defs₀ (F := F) = Cert.KernelIdeal.defs₀ (F := F) :=
  congrArg Defs.onTc (by
    funext ℓ
    match ℓ with
    | 0 => rfl)

/-- and so the same tables. -/
theorem tables_eq {F : FTy → Type} [FloatOps F] : Cert.Kernel.defs (F := F) = Cert.KernelIdeal.defs (F := F) :=
  congrArg (Pipeline.defs Cert.KernelIdeal.pcfgs) bodies_eq

/-- The frame of the kernel over words: the same run. -/
theorem frame_kernel : Cert.quiescent_Kernel (hKernel := Cert.Kernel.Gen.facts) := fun m ρ _ => by
  rw [tables_eq]
  exact args_kept (F := Bits) m ρ

/-- The frame of the reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Arrays.lean ====
/-
What the launch reads and leaves, as whole arrays: the staged inputs are the arguments, and the result array ends
holding what the body stored.
-/
module

public import proofs.«01_k».proof.Proof.Run
public import Idealize.ShloMosaic.Lib.Pipeline.ValueKit.Geometry
public import Idealize.ShloMosaic.Lib.Pipeline.ValueKit.Basic

@[expose] public section

noncomputable section

namespace Cert.Moe

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (ρ : Dev nD → PrngReg)

/-- Each staged input is the argument itself: its one block is the whole array. -/
theorem xAt_eq (c : Dev nD) : xAt m ρ c = m ((c : Thread nD τ).loc main_arg0) :=
  Memref.read_access_unit_zero (Elt F) main_arg0 (by funext a; fin_cases a <;> rfl) (fun a => by fin_cases a <;> decide) _
theorem wAt_eq (c : Dev nD) : wAt m ρ c = m ((c : Thread nD τ).loc main_arg1) :=
  Memref.read_access_unit_zero (Elt F) main_arg1 (by funext a; fin_cases a <;> rfl) (fun a => by fin_cases a <;> decide) _
theorem rAt_eq (c : Dev nD) : rAt m ρ c = m ((c : Thread nD τ).loc main_arg2) :=
  Memref.read_access_unit_zero (Elt F) main_arg2 (by funext a; fin_cases a <;> rfl) (fun a => by fin_cases a <;> decide) _
theorem eAt_eq (c : Dev nD) : eAt m ρ c = m ((c : Thread nD τ).loc main_arg3) :=
  Memref.read_access_unit_zero (Elt F) main_arg3 (by funext a; fin_cases a <;> rfl) (fun a => by fin_cases a <;> decide) _
theorem hAt_eq (c : Dev nD) : hAt m ρ c = m ((c : Thread nD τ).loc main_arg4) :=
  Memref.read_access_unit_zero (Elt F) main_arg4 (by funext a; fin_cases a <;> rfl) (fun a => by fin_cases a <;> decide) _

/-- The result array ends at what the body stored. -/
theorem result_eq (c : Dev nD) : finalA m ρ c 5 = outAt m ρ c := by
  refine (dats (F := F) m ρ 0 c).arrAt_eq_of_after_last 5 pt (by decide +kernel) (outAt m ρ c) fun j => ?_
  rfl

end Cert.Moe

end
-- ==== Proof.Mixture.lean ====
/-
The mathematics that both programs compute, over the extended reals: router scores, their softmax, the weight that a
token's index gives each of the 32 experts, and the mixture of the weighted experts with the shared one.
-/
module

public import Idealize.ShloMosaic.Lib.Pointwise
public import Mathlib.Data.Fintype.BigOperators
public import Mathlib.Logic.Equiv.Fin.Basic

@[expose] public section

noncomputable section

namespace Cert.Moe

open Idealize.ShloMosaic

/-- The arrays by their types: tokens, router weights, indices, all experts, the shared expert. -/
abbrev Tokens := (⟨2, ![2048, 512]⟩ : Shape).Idx → EReal
abbrev Router := (⟨2, ![512, 32]⟩ : Shape).Idx → EReal
abbrev Routes := (⟨2, ![2048, 1]⟩ : Shape).Idx → BitVec 32
abbrev Experts := (⟨3, ![32, 512, 1024]⟩ : Shape).Idx → EReal
abbrev Shared := (⟨2, ![512, 1024]⟩ : Shape).Idx → EReal

variable (x : Tokens) (w : Router) (r : Routes) (W : Experts) (s : Shared)

/-- Token `t`'s score for expert `e`. -/
def score (t : Fin 2048) (e : Fin 32) : EReal := ∑ j : Fin 512, x (ix2 t j) * w (ix2 j e)

/-- The greatest of a token's scores. -/
def peak (t : Fin 2048) : EReal := Finset.fold max (Ideal.ofBits .f32 0xFF800000#32) (fun e => score x w t e) Finset.univ

/-- The softmax of a token's scores. -/
def prob (t : Fin 2048) (e : Fin 32) : EReal :=
  Ideal.div (Ideal.exp (score x w t e - peak x w t)) (∑ e' : Fin 32, Ideal.exp (score x w t e' - peak x w t))

/-- The weight of expert `e` for token `t`: its probability if the token's index names it, else zero. -/
def weight (t : Fin 2048) (e : Fin 32) : EReal := if r (ix2 t 0) = BitVec.ofNat 32 e.val then prob x w t e else 0

/-- What expert `e` adds to entry `f` of token `t`. -/
def term (t : Fin 2048) (f : Fin 1024) (e : Fin 32) : EReal :=
  ∑ j : Fin 512, weight x w r t e * x (ix2 t j) * W (ix3 e j f)

/-- Entry `f` of token `t` of the whole result. -/
def mixture (t : Fin 2048) (f : Fin 1024) : EReal :=
  (∑ j : Fin 512, x (ix2 t j) * s (ix2 j f)) + ∑ e : Fin 32, term x w r W t f e

/-- Expert `k` of device `c` among all 32, and token `i` of device `d` among all 2048. -/
def nth (c : Fin 8) (k : Fin 4) : Fin 32 := ⟨4 * c.val + k.val, by omega⟩
def row (d : Fin 8) (i : Fin 256) : Fin 2048 := ⟨256 * d.val + i.val, by omega⟩

/-- What device `c`'s four experts add to entry `f` of token `t`. -/
def share (t : Fin 2048) (f : Fin 1024) (c : Fin 8) : EReal := ∑ k : Fin 4, term x w r W t f (nth c k)

/-- A sum over the 32 experts is the sum over the eight devices of the sums over each one's four. -/
theorem sum_devices (g : Fin 32 → EReal) : ∑ e : Fin 32, g e = ∑ c : Fin 8, ∑ k : Fin 4, g (nth c k) := by
  rw [← Fintype.sum_prod_type', ← (finProdFinEquiv (m := 8) (n := 4)).sum_comp g]
  refine Finset.sum_congr rfl fun p _ => congrArg g (Fin.ext ?_)
  simp only [finProdFinEquiv_apply_val, nth]
  omega

/-- The mixture as the shared part and the eight devices' shares. -/
theorem mixture_devices (t : Fin 2048) (f : Fin 1024) :
    mixture x w r W s t f = (∑ j : Fin 512, x (ix2 t j) * s (ix2 j f)) + ∑ c : Fin 8, share x w r W t f c :=
  congrArg _ (sum_devices _)

/-- The probability of the expert that a token's index names, zero if it names none. -/
def chosen (t : Fin 2048) : EReal := ∑ e : Fin 32, if BitVec.ofNat 32 e.val = r (ix2 t 0) then prob x w t e else 0

/-- Where the index names an expert, the chosen probability is that expert's. -/
theorem chosen_eq {t : Fin 2048} {e : Fin 32} (h : r (ix2 t 0) = BitVec.ofNat 32 e.val) : chosen x w r t = prob x w t e := by
  unfold chosen
  rw [Finset.sum_eq_single e (fun e' _ hne => if_neg fun h' => hne (Fin.ext ?_)) (fun hn => absurd (Finset.mem_univ _) hn)]
  · exact if_pos h.symm
  · have := congrArg BitVec.toNat (h'.trans h)
    simp only [BitVec.toNat_ofNat] at this
    omega

/-- The comparison's bit: one where the two words are equal, zero where they differ. -/
theorem bit_of_eq {a b : BitVec 32} (h : a = b) : IntOp.cmpi .eq a b = 1#1 := by
  show BitVec.ofBool (a == b) = 1#1
  rw [beq_iff_eq.mpr h]; rfl
theorem bit_of_ne {a b : BitVec 32} (h : ¬ a = b) : IntOp.cmpi .eq a b = 0#1 := by
  show BitVec.ofBool (a == b) = 0#1
  rw [beq_false_of_ne h]; rfl

/-- A product with the chosen probability, kept only where the index names `e`, is the product with `e`'s weight. -/
theorem kept_eq (t : Fin 2048) (e : Fin 32) (b : BitVec 32) (hb : b = BitVec.ofNat 32 e.val) (u v : EReal) :
    Scalar.select (IntOp.cmpi .eq (r (ix2 t 0)) b) (u * chosen x w r t * v) 0 = weight x w r t e * u * v := by
  subst hb
  unfold weight
  by_cases h : r (ix2 t 0) = BitVec.ofNat 32 e.val
  · rw [if_pos h, chosen_eq x w r h, mul_comm u, bit_of_eq h]
    rfl
  · rw [if_neg h, bit_of_ne h, zero_mul, zero_mul]
    rfl

/-- A product with the indicator that the index names `e` is the product with `e`'s weight. -/
theorem indicator_eq (t : Fin 2048) (e : Fin 32) :
    FloatOps.uitofp (F := Ideal) .f32 (IntOp.cmpi .eq (r (ix2 t 0)) (BitVec.ofNat 32 e.val)) * prob x w t e = weight x w r t e := by
  unfold weight
  by_cases h : r (ix2 t 0) = BitVec.ofNat 32 e.val
  · rw [if_pos h, bit_of_eq h]
    show ((((1#1 : BitVec 1).toNat : ℝ)) : EReal) * _ = _
    simp
  · rw [if_neg h, bit_of_ne h]
    show ((((0#1 : BitVec 1).toNat : ℝ)) : EReal) * _ = _
    simp

end Cert.Moe

end
-- ==== Proof.Values.lean ====
/-
What the kernel computes over the extended reals, entry by entry: the chosen probabilities, the part that one device's
experts add to another's tokens, and a device's result, which is its block of the mixture.
-/
module

public import proofs.«01_k».proof.Proof.Arrays
public import proofs.«01_k».proof.Proof.Mixture
public import Idealize.ShloMosaic.Lib.Layout

@[expose] public section

noncomputable section

namespace Cert.Moe

open Cert.KernelIdeal Cert.KernelIdeal.Gen
open Idealize.ShloMosaic Idealize.ShloMosaic.TcCoe Idealize.SL.Sem

/-- Every device holds the same tokens, router weights, indices and shared expert, and device `c` its four of the 32 experts. -/
structure Holds (m : (ℓ : Loc nD τ sig) → Buf (Elt Ideal) ℓ) (x : Tokens) (w : Router) (r : Routes) (W : Experts) (s : Shared) : Prop where
  tokens : ∀ c : Dev nD, m ((c : Thread nD τ).loc main_arg0) = x
  router : ∀ c : Dev nD, m ((c : Thread nD τ).loc main_arg1) = w
  routes : ∀ c : Dev nD, m ((c : Thread nD τ).loc main_arg2) = r
  experts : ∀ c : Dev nD, m ((c : Thread nD τ).loc main_arg3) = Layout.block ⟨3, ![4, 512, 1024]⟩ ⟨3, ![32, 512, 1024]⟩ 0 8 c W
  shared : ∀ c : Dev nD, m ((c : Thread nD τ).loc main_arg4) = s

variable {m : (ℓ : Loc nD τ sig) → Buf (Elt Ideal) ℓ} {x : Tokens} {w : Router} {r : Routes} {W : Experts} {s : Shared}
  (ρ : Dev nD → PrngReg) (h : Holds m x w r W s)

set_option maxRecDepth 16384 in
/-- The stored column of probabilities: each token's chosen one. -/
theorem pay1_apply (x : Tokens) (w : Router) (r : Routes) (t : Fin 2048) : k0_pay1 (F := Ideal) x w r (ix2 t 0) = chosen x w r t := by
  pointwise [k0_pay1]
  refine Finset.sum_congr rfl fun e _ => ?_
  by_cases he : BitVec.ofNat 32 e.val = r (ix2 t 0)
  · rw [if_pos he, bit_of_eq he]; rfl
  · rw [if_neg he, bit_of_ne he]; rfl

include h

/-- The rows of device `d`, read anywhere, are tokens `256 d` to `256 d + 255`. -/
theorem xRows_apply (c d : Dev nD) (i : Fin 256) (j : Fin 512) : xRows m ρ c d (ix2 i j) = x (ix2 (row d i) j) := by
  show xAt m ρ c ((rowsR d).toLoadRect.idx (ix2 i j)) = _
  rw [xAt_eq, h.tokens]
  refine congrArg x ?_
  funext a; apply Fin.ext; fin_cases a
  · show 256 * d.val + 1 * i.val = 256 * d.val + i.val; omega
  · show 0 + 1 * j.val = j.val; omega

theorem pRows_apply (c d : Dev nD) (i : Fin 256) : pRows m ρ c d (ix2 i 0) = chosen x w r (row d i) := by
  show pAt m ρ c ((colR d).toLoadRect.idx (ix2 i 0)) = _
  rw [← pay1_apply x w r (row d i)]
  unfold pAt
  rw [xAt_eq, wAt_eq, rAt_eq, h.tokens, h.router, h.routes]
  refine congrArg (k0_pay1 (F := Ideal) x w r) ?_
  funext a; apply Fin.ext; fin_cases a
  · show 256 * d.val + 1 * i.val = 256 * d.val + i.val; omega
  · rfl

theorem rRows_apply (c d : Dev nD) (i : Fin 256) : rRows m ρ c d (ix2 i 0) = r (ix2 (row d i) 0) := by
  show rAt m ρ c ((colR d).toLoadRect.idx (ix2 i 0)) = _
  rw [rAt_eq, h.routes]
  refine congrArg r ?_
  funext a; apply Fin.ext; fin_cases a
  · show 256 * d.val + 1 * i.val = 256 * d.val + i.val; omega
  · rfl

/-- Expert `k` of device `c` is expert `4 c + k` of all. -/
theorem expert_apply (c : Dev nD) (k : Fin 4) (j : Fin 512) (f : Fin 1024) :
    expert m ρ c k (ix3 0 j f) = W (ix3 (nth c k) j f) := by
  show eAt m ρ c ((expR k).toLoadRect.idx (ix3 0 j f)) = _
  rw [eAt_eq, h.experts]
  refine congrArg W ?_
  funext a; apply Fin.ext; fin_cases a
  · show c.val * 4 + (k.val + 1 * 0) = 4 * c.val + k.val; omega
  · show 0 + 1 * j.val = j.val; omega
  · show 0 + 1 * f.val = f.val; omega

/-- The number by which the kernel knows expert `k` of device `c`. -/
def numbers (c : Dev nD) (k : Fin 4) : BitVec 32 := Scalar.addi (Scalar.muli (num c) 4#32) (BitVec.ofNat 32 k.val)

omit h in
/-- It is `4 c + k`. -/
theorem word_eq (c : Dev nD) (k : Fin 4) : numbers c k = BitVec.ofNat 32 (nth c k).val := by
  revert c k; decide

omit h in
/-- Four sums of products with the chosen probability, each kept only where the index names that expert of device `c`, are its share. -/
theorem kept_share (x : Tokens) (w : Router) (r : Routes) (W : Experts) (t : Fin 2048) (f : Fin 1024) (c : Dev nD) {b : Fin 4 → BitVec 32}
    (h0 : b 0 = BitVec.ofNat 32 (nth c 0).val) (h1 : b 1 = BitVec.ofNat 32 (nth c 1).val)
    (h2 : b 2 = BitVec.ofNat 32 (nth c 2).val) (h3 : b 3 = BitVec.ofNat 32 (nth c 3).val) :
    (∑ j : Fin 512, Scalar.select (IntOp.cmpi .eq (r (ix2 t 0)) (b 0)) (x (ix2 t j) * chosen x w r t * W (ix3 (nth c 0) j f)) 0)
      + (∑ j : Fin 512, Scalar.select (IntOp.cmpi .eq (r (ix2 t 0)) (b 1)) (x (ix2 t j) * chosen x w r t * W (ix3 (nth c 1) j f)) 0)
      + (∑ j : Fin 512, Scalar.select (IntOp.cmpi .eq (r (ix2 t 0)) (b 2)) (x (ix2 t j) * chosen x w r t * W (ix3 (nth c 2) j f)) 0)
      + (∑ j : Fin 512, Scalar.select (IntOp.cmpi .eq (r (ix2 t 0)) (b 3)) (x (ix2 t j) * chosen x w r t * W (ix3 (nth c 3) j f)) 0)
      = share x w r W t f c := by
  have hk : ∀ k b, b = BitVec.ofNat 32 (nth c k).val →
      ∑ j : Fin 512, Scalar.select (IntOp.cmpi .eq (r (ix2 t 0)) b) (x (ix2 t j) * chosen x w r t * W (ix3 (nth c k) j f)) 0
        = term x w r W t f (nth c k) :=
    fun k b hb => Finset.sum_congr rfl fun j _ => kept_eq x w r t (nth c k) b hb (x (ix2 t j)) (W (ix3 (nth c k) j f))
  rw [hk 0 _ h0, hk 1 _ h1, hk 2 _ h2, hk 3 _ h3]
  exact (Fin.sum_univ_four fun k : Fin 4 => term x w r W t f (nth c k)).symm

set_option maxRecDepth 16384 in
/-- What device `c` sends to device `d`: its four experts' share of `d`'s tokens. -/
theorem partOf_apply (c d : Dev nD) (i : Fin 256) (f : Fin 1024) :
    partOf m ρ c d (ix3 0 i f) = share x w r W (row d i) f c := by
  unfold partOf
  pointwise [k0_pay10, k0_pay2, k0_pay3, k0_pay4, k0_pay5, k0_pay6, k0_pay7, k0_pay8, k0_pay9]
  simp only [xRows_apply ρ h, pRows_apply ρ h, rRows_apply ρ h, expert_apply ρ h]
  exact kept_share x w r W (row d i) f c (b := numbers c) (word_eq c 0) (word_eq c 1) (word_eq c 2) (word_eq c 3)

set_option maxRecDepth 16384 in
/-- What a device's own experts add to its own tokens: their share. -/
theorem ownPart_apply (c : Dev nD) (i : Fin 256) (f : Fin 1024) :
    ownPart m ρ c (ix2 i f) = share x w r W (row c i) f c := by
  unfold ownPart
  pointwise [k0_pay43, k0_pay2, k0_pay3, k0_pay4, k0_pay5, k0_pay40, k0_pay41, k0_pay42]
  simp only [xRows_apply ρ h, pRows_apply ρ h, rRows_apply ρ h, expert_apply ρ h]
  exact kept_share x w r W (row c i) f c (b := numbers c) (word_eq c 0) (word_eq c 1) (word_eq c 2) (word_eq c 3)

omit h in
/-- A sum over the eight devices, taken from device `c` round the ring. -/
theorem sum_ring (g : Fin 8 → EReal) (c : Dev nD) :
    ∑ d : Fin 8, g d = g c + g (peer c 6) + g (peer c 5) + g (peer c 4) + g (peer c 3) + g (peer c 2) + g (peer c 1) + g (peer c 0) := by
  have hu : ∀ c : Dev nD, (Finset.univ : Finset (Fin 8))
      = {c, peer c 6, peer c 5, peer c 4, peer c 3, peer c 2, peer c 1, peer c 0} := by decide
  have hn : ∀ c : Dev nD, [c, peer c 6, peer c 5, peer c 4, peer c 3, peer c 2, peer c 1, peer c 0].Nodup := by decide
  have := List.sum_toFinset g (hn c)
  rw [show [c, peer c 6, peer c 5, peer c 4, peer c 3, peer c 2, peer c 1, peer c 0].toFinset = (Finset.univ : Finset (Fin 8)) from
    (by simp only [List.toFinset_cons, List.toFinset_nil]; exact (hu c).symm)] at this
  rw [this]
  simp only [List.map_cons, List.map_nil, List.sum_cons, List.sum_nil, add_zero, add_assoc]

set_option maxRecDepth 16384 in
/-- A device's result is its 256 tokens' part of the mixture. -/
theorem outAt_apply (c : Dev nD) (i : Fin 256) (f : Fin 1024) :
    outAt m ρ c (ix2 i f) = mixture x w r W s (row c i) f := by
  unfold outAt
  pointwise [k0_pay47, k0_pay46, k0_pay45, k0_pay44]
  simp only [xRows_apply ρ h, partOf_apply ρ h, ownPart_apply ρ h, hAt_eq, h.shared]
  rw [mixture_devices, sum_ring _ c]
  ac_rfl

end Cert.Moe

end
-- ==== Proof.Reference.lean ====
/-
What the reference computes, entry by entry: the mixture.
-/
module

public import proofs.«01_k».proof.Proof.Mixture
public import proofs.«01_k».proof.Proof.Gen.ReferenceIdeal.Run
public import Idealize.ShloMosaic.Lib.Tactic.CleanTypes

@[expose] public section

noncomputable section

namespace Cert.Moe.Ref

open Cert.ReferenceIdeal Cert.ReferenceIdeal.Gen
open Idealize.ShloMosaic Idealize.ShloMosaic.TcCoe Idealize.SL.Sem

/-- The mixture of a memory's five arguments, as the array of all tokens. -/
def whole (m : (ℓ : Loc nD τ sig) → Buf (Elt Ideal) ℓ) (c : Dev nD) : S2048x1024.Idx → EReal := fun i =>
  mixture (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (i 0) (i 1)

set_option maxRecDepth 16384 in
/-- From any memory with counters at zero the reference ends with the mixture of its arguments, which it leaves as they were. -/
theorem run_mixture (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2⟩) (Cert.ReferenceIdeal.Value.run (F := Ideal) m ρ)
  funext i
  obtain ⟨t, f, rfl⟩ : ∃ (t : Fin 2048) (f : Fin 1024), i = ix2 t f := ⟨i 0, i 1, eq_ix2 i⟩
  clean_types
  pointwise
  show _ = mixture _ _ _ _ _ t f
  refine congrArg _ ?_
  rw [Finset.sum_comm]
  refine Finset.sum_congr rfl fun e _ => Finset.sum_congr rfl fun j _ => ?_
  exact congrArg (fun q => q * _ * _) (indicator_eq _ _ _ t e)

end Cert.Moe.Ref

end
-- ==== Proof.Algebraic.lean ====
/-
The value claim: on every device the kernel's result is that device's block of the reference's.
-/
module

public import proofs.«01_k».proof.Defs
public import proofs.«01_k».proof.Proof.Frames
public import proofs.«01_k».proof.Proof.Values
public import proofs.«01_k».proof.Proof.Reference

@[expose] public section

noncomputable section

namespace Cert.Moe

open Cert.KernelIdeal Cert.KernelIdeal.Gen
open Idealize.ShloMosaic Idealize.ShloMosaic.TcCoe Idealize.SL.Sem

/-- A device's result is its block of the mixture of the whole arrays. -/
theorem outAt_block {m : (ℓ : Loc nD τ sig) → Buf (Elt Ideal) ℓ} {x : Tokens} {w : Router} {r : Routes} {W : Experts} {s : Shared}
    (ρ : Dev nD → PrngReg) (h : Holds m x w r W s) (c : Dev nD) :
    outAt m ρ c = Layout.block ⟨2, ![256, 1024]⟩ ⟨2, ![2048, 1024]⟩ 0 8 c (fun i => mixture x w r W s (i 0) (i 1)) := by
  funext i
  obtain ⟨a, f, rfl⟩ : ∃ (a : Fin 256) (f : Fin 1024), i = ix2 a f := ⟨i 0, i 1, eq_ix2 i⟩
  rw [outAt_apply ρ h, Layout.block_apply]
  refine congrArg₂ (mixture x w r W s) (Fin.ext ?_) rfl
  show 256 * c.val + a.val = c.val * 256 + a.val
  omega

/-- Over the extended reals, from memories whose arguments agree, kernel and reference end with the same result, block
    by block, and with their arguments unchanged. -/
theorem algebraic : Cert.algebraic_KernelIdeal_ReferenceIdeal (hKernelIdeal := Cert.KernelIdeal.Gen.facts)
    (hReferenceIdeal := Cert.ReferenceIdeal.Gen.facts) := by
  intro m g m' g' _ hargs
  have h : Holds m _ _ _ _ _ := ⟨fun c => (hargs c).1, fun c => (hargs c).2.1, fun c => (hargs c).2.2.1,
    fun c => (hargs c).2.2.2.1, fun c => (hargs c).2.2.2.2⟩
  refine ⟨Ref.whole m' 0, ?_, ?_⟩
  · refine (θ_run Cert.KernelIdeal.defs _ _).mono (fun r hr c => ?_) (run_main (F := Ideal) m g)
    have hw := hr.1 c
    exact ⟨((hw 5).trans (result_eq m g c)).trans (outAt_block g h c),
      (hw 0).trans (finalA_in m g c 0 rfl), (hw 1).trans (finalA_in m g c 1 rfl), (hw 2).trans (finalA_in m g c 2 rfl),
      (hw 3).trans (finalA_in m g c 3 rfl), (hw 4).trans (finalA_in m g c 4 rfl)⟩
  · exact (θ_run Cert.ReferenceIdeal.defs _ _).mono (fun r hr => hr 0) (Ref.run_mixture m' g')

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All five claims: three frames, the idealized program is the kernel, and it computes what the reference computes. -/
theorem claim : Cert.Claim := ⟨Cert.Kernel.Gen.facts, Cert.KernelIdeal.Gen.facts, Cert.ReferenceIdeal.Gen.facts,
  Moe.frame_kernel, Moe.frame_ideal, Moe.frame_reference, trivial, Moe.algebraic⟩

end Cert.Proof

end
